-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x1024 : Shape := ⟨2, ![2, 1024]⟩
abbrev S2048x1024 : Shape := ⟨2, ![2048, 1024]⟩
abbrev S1x2x1024 : Shape := ⟨3, ![1, 2, 1024]⟩
abbrev S1x7x2x1024 : Shape := ⟨4, ![1, 7, 2, 1024]⟩
abbrev S1x7 : Shape := ⟨2, ![1, 7]⟩
abbrev S1024 : Shape := ⟨1, ![1024]⟩
abbrev S1x1024 : Shape := ⟨2, ![1, 1024]⟩
abbrev S1x1x1024 : Shape := ⟨3, ![1, 1, 1024]⟩
abbrev S_ : Shape := ⟨0, ![]⟩
abbrev S1x1 : Shape := ⟨2, ![1, 1]⟩
abbrev S1x1x2x1024 : Shape := ⟨4, ![1, 1, 2, 1024]⟩
abbrev S1x1x1x1024 : Shape := ⟨4, ![1, 1, 1, 1024]⟩

abbrev nBuf : Space → Nat
  | .hbm => 2
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024, .f32⟩
  | .local _ .vmem, ⟨0, _⟩ => ⟨S2048x1024, .bf16⟩
  | .local _ .vmem, ⟨1, _⟩ => ⟨S2048x1024, .bf16⟩
  | .local _ .vmem, ⟨2, _⟩ => ⟨S2x1024, .f32⟩
  | .local _ .vmem, ⟨3, _⟩ => ⟨S1x2x1024, .f32⟩
  | .local _ .vmem, ⟨4, _⟩ => ⟨S1x7x2x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_4 : BitVec 32 := 0#32
  let v24 : BitVec 1 := Scalar.cmpi .ne v23 c0_i32_4
  v24

def k0_off1 (i : grid0.Coords) : Fin 3 → Nat :=
  let arg0 : BitVec 32 := BitVec.ofNat 32 (i 0).val
  let v47 : Index := Scalar.indexCast arg0
  let c0_16 : Index := 0#32
  let c0_17 : Index := 0#32
  ![v47.toNat, 0, 0]
def k0_off2 (i : grid0.Coords) : Fin 3 → Nat :=
  let arg0 : BitVec 32 := BitVec.ofNat 32 (i 0).val
  let v51 : Index := Scalar.indexCast arg0
  let c1 : Index := 1#32
  let c0_18 : Index := 0#32
  ![v51.toNat, 1, 0]
def k0_cond2 (i : grid0.Coords) : BitVec 1 :=
  let arg1 : BitVec 32 := BitVec.ofNat 32 (i 1).val
  let c0_i32_5 : BitVec 32 := 0#32
  let v25 : BitVec 1 := Scalar.cmpi .sgt arg1 c0_i32_5
  let v26 : BitVec 32 := Scalar.extui v25
  let c0_i32_6 : BitVec 32 := 0#32
  let v27 : BitVec 1 := Scalar.cmpi .ne v26 c0_i32_6
  v27

def k0_off3 (i : grid0.Coords) : Fin 3 → Nat :=
  let arg0 : BitVec 32 := BitVec.ofNat 32 (i 0).val
  let v46 : Index := Scalar.indexCast arg0
  let c0_16 : Index := 0#32
  let c0_17 : Index := 0#32
  ![v46.toNat, 0, 0]
def k0_off4 (i : grid0.Coords) : Fin 3 → Nat :=
  let arg0 : BitVec 32 := BitVec.ofNat 32 (i 0).val
  let v60 : Index := Scalar.indexCast arg0
  let c1 : Index := 1#32
  let c0_22 : Index := 0#32
  ![v60.toNat, 1, 0]
def k0_cond3 (i : grid0.Coords) : BitVec 1 :=
  let arg0 : BitVec 32 := BitVec.ofNat 32 (i 0).val
  let c0_i32_7 : BitVec 32 := 0#32
  let v28 : BitVec 1 := Scalar.cmpi .eq arg0 c0_i32_7
  let arg1 : BitVec 32 := BitVec.ofNat 32 (i 1).val
  let c2_i32 : BitVec 32 := 2#32
  let v29 : BitVec 1 := Scalar.cmpi .eq arg1 c2_i32
  let v30 : BitVec 1 := Scalar.andi v28 v29
  let v31 : BitVec 32 := Scalar.extui v30
  let c0_i32_8 : BitVec 32 := 0#32
  let v32 : BitVec 1 := Scalar.cmpi .ne v31 c0_i32_8
  v32

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v47 : BitVec 32 := Scalar.addi v2 c1_i32_16
  let c8_i32_17 : BitVec 32 := 8#32
  let c0_i32_18 : BitVec 32 := 0#32
  let v48 : BitVec 1 := Scalar.cmpi .eq c8_i32_17 c0_i32_18
  let c1_i32_19 : BitVec 32 := 1#32
  let v49 : BitVec 32 := Scalar.select v48 c1_i32_19 c8_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_24 : BitVec 32 := 1#32
  let v58 : BitVec 32 := Scalar.muli v57 c1_i32_24
  let v59 : BitVec 32 := Scalar.addi c0_i32_25 v58
  v59.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_26 : BitVec 32 := 2#32
  let v60 : BitVec 32 := Scalar.addi v2 c2_i32_26
  let c8_i32_27 : BitVec 32 := 8#32
  let c0_i32_28 : BitVec 32 := 0#32
  let v61 : BitVec 1 := Scalar.cmpi .eq c8_i32_27 c0_i32_28
  let c1_i32_29 : BitVec 32 := 1#32
  let v62 : BitVec 32 := Scalar.select v61 c1_i32_29 c8_i32_27
  let v63 : BitVec 32 := Scalar.remsi v60 v62
  let c0_i32_31 : BitVec 32 := 0#32
  let v65 : BitVec 1 := Scalar.cmpi .slt v63 c0_i32_31
  let c0_i32_32 : BitVec 32 := 0#32
  let v66 : BitVec 1 := Scalar.cmpi .slt v62 c0_i32_32
  let v67 : BitVec 1 := Scalar.xori v65 v66
  let c0_i32_30 : BitVec 32 := 0#32
  let v64 : BitVec 1 := Scalar.cmpi .ne v63 c0_i32_30
  let v68 : BitVec 1 := Scalar.andi v67 v64
  let v69 : BitVec 32 := Scalar.addi v63 v62
  let v70 : BitVec 32 := Scalar.select v68 v69 v63
  let c1_i32_34 : BitVec 32 := 1#32
  let v71 : BitVec 32 := Scalar.muli v70 c1_i32_34
  let v72 : BitVec 32 := Scalar.addi c0_i32_35 v71
  v72.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_36 : BitVec 32 := 3#32
  let v73 : BitVec 32 := Scalar.addi v2 c3_i32_36
  let c8_i32_37 : BitVec 32 := 8#32
  let c0_i32_38 : BitVec 32 := 0#32
  let v74 : BitVec 1 := Scalar.cmpi .eq c8_i32_37 c0_i32_38
  let c1_i32_39 : BitVec 32 := 1#32
  let v75 : BitVec 32 := Scalar.select v74 c1_i32_39 c8_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c1_i32_44 : BitVec 32 := 1#32
  let v84 : BitVec 32 := Scalar.muli v83 c1_i32_44
  let v85 : BitVec 32 := Scalar.addi c0_i32_45 v84
  v85.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v86 : BitVec 32 := Scalar.addi v2 c4_i32
  let c8_i32_46 : BitVec 32 := 8#32
  let c0_i32_47 : BitVec 32 := 0#32
  let v87 : BitVec 1 := Scalar.cmpi .eq c8_i32_46 c0_i32_47
  let c1_i32_48 : BitVec 32 := 1#32
  let v88 : BitVec 32 := Scalar.select v87 c1_i32_48 c8_i32_46
  let v89 : BitVec 32 := Scalar.remsi v86 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c1_i32_53 : BitVec 32 := 1#32
  let v97 : BitVec 32 := Scalar.muli v96 c1_i32_53
  let v98 : BitVec 32 := Scalar.addi c0_i32_54 v97
  v98.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v99 : BitVec 32 := Scalar.addi v2 c5_i32
  let c8_i32_55 : BitVec 32 := 8#32
  let c0_i32_56 : BitVec 32 := 0#32
  let v100 : BitVec 1 := Scalar.cmpi .eq c8_i32_55 c0_i32_56
  let c1_i32_57 : BitVec 32 := 1#32
  let v101 : BitVec 32 := Scalar.select v100 c1_i32_57 c8_i32_55
  let v102 : BitVec 32 := Scalar.remsi v99 v101
  let c0_i32_59 : BitVec 32 := 0#32
  let v104 : BitVec 1 := Scalar.cmpi .slt v102 c0_i32_59
  let c0_i32_60 : BitVec 32 := 0#32
  let v105 : BitVec 1 := Scalar.cmpi .slt v101 c0_i32_60
  let v106 : BitVec 1 := Scalar.xori v104 v105
  let c0_i32_58 : BitVec 32 := 0#32
  let v103 : BitVec 1 := Scalar.cmpi .ne v102 c0_i32_58
  let v107 : BitVec 1 := Scalar.andi v106 v103
  let v108 : BitVec 32 := Scalar.addi v102 v101
  let v109 : BitVec 32 := Scalar.select v107 v108 v102
  let c1_i32_62 : BitVec 32 := 1#32
  let v110 : BitVec 32 := Scalar.muli v109 c1_i32_62
  let v111 : BitVec 32 := Scalar.addi c0_i32_63 v110
  v111.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v112 : BitVec 32 := Scalar.addi v2 c6_i32
  let c8_i32_64 : BitVec 32 := 8#32
  let c0_i32_65 : BitVec 32 := 0#32
  let v113 : BitVec 1 := Scalar.cmpi .eq c8_i32_64 c0_i32_65
  let c1_i32_66 : BitVec 32 := 1#32
  let v114 : BitVec 32 := Scalar.select v113 c1_i32_66 c8_i32_64
  let v115 : BitVec 32 := Scalar.remsi v112 v114
  let c0_i32_68 : BitVec 32 := 0#32
  let v117 : BitVec 1 := Scalar.cmpi .slt v115 c0_i32_68
  let c0_i32_69 : BitVec 32 := 0#32
  let v118 : BitVec 1 := Scalar.cmpi .slt v114 c0_i32_69
  let v119 : BitVec 1 := Scalar.xori v117 v118
  let c0_i32_67 : BitVec 32 := 0#32
  let v116 : BitVec 1 := Scalar.cmpi .ne v115 c0_i32_67
  let v120 : BitVec 1 := Scalar.andi v119 v116
  let v121 : BitVec 32 := Scalar.addi v115 v114
  let v122 : BitVec 32 := Scalar.select v120 v121 v115
  let c1_i32_71 : BitVec 32 := 1#32
  let v123 : BitVec 32 := Scalar.muli v122 c1_i32_71
  let v124 : BitVec 32 := Scalar.addi c0_i32_72 v123
  v124.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v125 : BitVec 32 := Scalar.addi v2 c7_i32
  let c8_i32_73 : BitVec 32 := 8#32
  let c0_i32_74 : BitVec 32 := 0#32
  let v126 : BitVec 1 := Scalar.cmpi .eq c8_i32_73 c0_i32_74
  let c1_i32_75 : BitVec 32 := 1#32
  let v127 : BitVec 32 := Scalar.select v126 c1_i32_75 c8_i32_73
  let v128 : BitVec 32 := Scalar.remsi v125 v127
  let c0_i32_77 : BitVec 32 := 0#32
  let v130 : BitVec 1 := Scalar.cmpi .slt v128 c0_i32_77
  let c0_i32_78 : BitVec 32 := 0#32
  let v131 : BitVec 1 := Scalar.cmpi .slt v127 c0_i32_78
  let v132 : BitVec 1 := Scalar.xori v130 v131
  let c0_i32_76 : BitVec 32 := 0#32
  let v129 : BitVec 1 := Scalar.cmpi .ne v128 c0_i32_76
  let v133 : BitVec 1 := Scalar.andi v132 v129
  let v134 : BitVec 32 := Scalar.addi v128 v127
  let v135 : BitVec 32 := Scalar.select v133 v134 v128
  let c1_i32_80 : BitVec 32 := 1#32
  let v136 : BitVec 32 := Scalar.muli v135 c1_i32_80
  let v137 : BitVec 32 := Scalar.addi c0_i32_81 v136
  v137.toNat
def k0_cond5 (i : grid0.Coords) : BitVec 1 :=
  let arg1 : BitVec 32 := BitVec.ofNat 32 (i 1).val
  let c3_i32_11 : BitVec 32 := 3#32
  let v38 : BitVec 1 := Scalar.cmpi .eq arg1 c3_i32_11
  let v39 : BitVec 32 := Scalar.extui v38
  let c0_i32_12 : BitVec 32 := 0#32
  let v40 : BitVec 1 := Scalar.cmpi .ne v39 c0_i32_12
  v40

def k0_off5 (i : grid0.Coords) : Fin 2 → Nat :=
  let arg0 : BitVec 32 := BitVec.ofNat 32 (i 0).val
  let c0_i32_25 : BitVec 32 := 0#32
  ![arg0.toNat, 0]
def k0_off6 (i : grid0.Coords) : Fin 4 → Nat :=
  let arg0 : BitVec 32 := BitVec.ofNat 32 (i 0).val
  let c0_i32_23 : BitVec 32 := 0#32
  let c0_i32_28 : BitVec 32 := 0#32
  let c0_i32_29 : BitVec 32 := 0#32
  ![arg0.toNat, 0, 0, 0]
def k0_off7 (i : grid0.Coords) : Fin 3 → Nat :=
  let arg0 : BitVec 32 := BitVec.ofNat 32 (i 0).val
  let c0_i32_30 : BitVec 32 := 0#32
  let c0_i32_31 : BitVec 32 := 0#32
  ![arg0.toNat, 0, 0]
def k0_dev8 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v46 : BitVec 32 := Scalar.addi v2 c1_i32_16
  let c8_i32_17 : BitVec 32 := 8#32
  let c0_i32_18 : BitVec 32 := 0#32
  let v47 : BitVec 1 := Scalar.cmpi .eq c8_i32_17 c0_i32_18
  let c1_i32_19 : BitVec 32 := 1#32
  let v48 : BitVec 32 := Scalar.select v47 c1_i32_19 c8_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_26 : BitVec 32 := 1#32
  let v57 : BitVec 32 := Scalar.muli v56 c1_i32_26
  let v58 : BitVec 32 := Scalar.addi c0_i32_27 v57
  v58.toNat
def k0_off8 (i : grid0.Coords) : Fin 2 → Nat :=
  let arg0 : BitVec 32 := BitVec.ofNat 32 (i 0).val
  let c1_i32_41 : BitVec 32 := 1#32
  ![arg0.toNat, 1]
def k0_off9 (i : grid0.Coords) : Fin 4 → Nat :=
  let arg0 : BitVec 32 := BitVec.ofNat 32 (i 0).val
  let c1_i32_39 : BitVec 32 := 1#32
  let c0_i32_44 : BitVec 32 := 0#32
  let c0_i32_45 : BitVec 32 := 0#32
  ![arg0.toNat, 1, 0, 0]
def k0_dev9 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_32 : BitVec 32 := 2#32
  let v67 : BitVec 32 := Scalar.addi v2 c2_i32_32
  let c8_i32_33 : BitVec 32 := 8#32
  let c0_i32_34 : BitVec 32 := 0#32
  let v68 : BitVec 1 := Scalar.cmpi .eq c8_i32_33 c0_i32_34
  let c1_i32_35 : BitVec 32 := 1#32
  let v69 : BitVec 32 := Scalar.select v68 c1_i32_35 c8_i32_33
  let v70 : BitVec 32 := Scalar.remsi v67 v69
  let c0_i32_37 : BitVec 32 := 0#32
  let v72 : BitVec 1 := Scalar.cmpi .slt v70 c0_i32_37
  let c0_i32_38 : BitVec 32 := 0#32
  let v73 : BitVec 1 := Scalar.cmpi .slt v69 c0_i32_38
  let v74 : BitVec 1 := Scalar.xori v72 v73
  let c0_i32_36 : BitVec 32 := 0#32
  let v71 : BitVec 1 := Scalar.cmpi .ne v70 c0_i32_36
  let v75 : BitVec 1 := Scalar.andi v74 v71
  let v76 : BitVec 32 := Scalar.addi v70 v69
  let v77 : BitVec 32 := Scalar.select v75 v76 v70
  let c1_i32_42 : BitVec 32 := 1#32
  let v78 : BitVec 32 := Scalar.muli v77 c1_i32_42
  let v79 : BitVec 32 := Scalar.addi c0_i32_43 v78
  v79.toNat
def k0_off10 (i : grid0.Coords) : Fin 2 → Nat :=
  let arg0 : BitVec 32 := BitVec.ofNat 32 (i 0).val
  let c2_i32_57 : BitVec 32 := 2#32
  ![arg0.toNat, 2]
def k0_off11 (i : grid0.Coords) : Fin 4 → Nat :=
  let arg0 : BitVec 32 := BitVec.ofNat 32 (i 0).val
  let c2_i32_55 : BitVec 32 := 2#32
  let c0_i32_60 : BitVec 32 := 0#32
  let c0_i32_61 : BitVec 32 := 0#32
  ![arg0.toNat, 2, 0, 0]
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_48 : BitVec 32 := 3#32
  let v88 : BitVec 32 := Scalar.addi v2 c3_i32_48
  let c8_i32_49 : BitVec 32 := 8#32
  let c0_i32_50 : BitVec 32 := 0#32
  let v89 : BitVec 1 := Scalar.cmpi .eq c8_i32_49 c0_i32_50
  let c1_i32_51 : BitVec 32 := 1#32
  let v90 : BitVec 32 := Scalar.select v89 c1_i32_51 c8_i32_49
  let v91 : BitVec 32 := Scalar.remsi v88 v90
  let c0_i32_53 : BitVec 32 := 0#32
  let v93 : BitVec 1 := Scalar.cmpi .slt v91 c0_i32_53
  let c0_i32_54 : BitVec 32 := 0#32
  let v94 : BitVec 1 := Scalar.cmpi .slt v90 c0_i32_54
  let v95 : BitVec 1 := Scalar.xori v93 v94
  let c0_i32_52 : BitVec 32 := 0#32
  let v92 : BitVec 1 := Scalar.cmpi .ne v91 c0_i32_52
  let v96 : BitVec 1 := Scalar.andi v95 v92
  let v97 : BitVec 32 := Scalar.addi v91 v90
  let v98 : BitVec 32 := Scalar.select v96 v97 v91
  let c1_i32_58 : BitVec 32 := 1#32
  let v99 : BitVec 32 := Scalar.muli v98 c1_i32_58
  let v100 : BitVec 32 := Scalar.addi c0_i32_59 v99
  v100.toNat
def k0_off12 (i : grid0.Coords) : Fin 2 → Nat :=
  let arg0 : BitVec 32 := BitVec.ofNat 32 (i 0).val
  let c3_i32_72 : BitVec 32 := 3#32
  ![arg0.toNat, 3]
def k0_off13 (i : grid0.Coords) : Fin 4 → Nat :=
  let arg0 : BitVec 32 := BitVec.ofNat 32 (i 0).val
  let c3_i32_70 : BitVec 32 := 3#32
  let c0_i32_75 : BitVec 32 := 0#32
  let c0_i32_76 : BitVec 32 := 0#32
  ![arg0.toNat, 3, 0, 0]
def k0_dev11 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v109 : BitVec 32 := Scalar.addi v2 c4_i32
  let c8_i32_64 : BitVec 32 := 8#32
  let c0_i32_65 : BitVec 32 := 0#32
  let v110 : BitVec 1 := Scalar.cmpi .eq c8_i32_64 c0_i32_65
  let c1_i32_66 : BitVec 32 := 1#32
  let v111 : BitVec 32 := Scalar.select v110 c1_i32_66 c8_i32_64
  let v112 : BitVec 32 := Scalar.remsi v109 v111
  let c0_i32_68 : BitVec 32 := 0#32
  let v114 : BitVec 1 := Scalar.cmpi .slt v112 c0_i32_68
  let c0_i32_69 : BitVec 32 := 0#32
  let v115 : BitVec 1 := Scalar.cmpi .slt v111 c0_i32_69
  let v116 : BitVec 1 := Scalar.xori v114 v115
  let c0_i32_67 : BitVec 32 := 0#32
  let v113 : BitVec 1 := Scalar.cmpi .ne v112 c0_i32_67
  let v117 : BitVec 1 := Scalar.andi v116 v113
  let v118 : BitVec 32 := Scalar.addi v112 v111
  let v119 : BitVec 32 := Scalar.select v117 v118 v112
  let c1_i32_73 : BitVec 32 := 1#32
  let v120 : BitVec 32 := Scalar.muli v119 c1_i32_73
  let v121 : BitVec 32 := Scalar.addi c0_i32_74 v120
  v121.toNat
def k0_off14 (i : grid0.Coords) : Fin 2 → Nat :=
  let arg0 : BitVec 32 := BitVec.ofNat 32 (i 0).val
  let c4_i32_87 : BitVec 32 := 4#32
  ![arg0.toNat, 4]
def k0_off15 (i : grid0.Coords) : Fin 4 → Nat :=
  let arg0 : BitVec 32 := BitVec.ofNat 32 (i 0).val
  let c4_i32_85 : BitVec 32 := 4#32
  let c0_i32_90 : BitVec 32 := 0#32
  let c0_i32_91 : BitVec 32 := 0#32
  ![arg0.toNat, 4, 0, 0]
def k0_dev12 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v130 : BitVec 32 := Scalar.addi v2 c5_i32
  let c8_i32_79 : BitVec 32 := 8#32
  let c0_i32_80 : BitVec 32 := 0#32
  let v131 : BitVec 1 := Scalar.cmpi .eq c8_i32_79 c0_i32_80
  let c1_i32_81 : BitVec 32 := 1#32
  let v132 : BitVec 32 := Scalar.select v131 c1_i32_81 c8_i32_79
  let v133 : BitVec 32 := Scalar.remsi v130 v132
  let c0_i32_83 : BitVec 32 := 0#32
  let v135 : BitVec 1 := Scalar.cmpi .slt v133 c0_i32_83
  let c0_i32_84 : BitVec 32 := 0#32
  let v136 : BitVec 1 := Scalar.cmpi .slt v132 c0_i32_84
  let v137 : BitVec 1 := Scalar.xori v135 v136
  let c0_i32_82 : BitVec 32 := 0#32
  let v134 : BitVec 1 := Scalar.cmpi .ne v133 c0_i32_82
  let v138 : BitVec 1 := Scalar.andi v137 v134
  let v139 : BitVec 32 := Scalar.addi v133 v132
  let v140 : BitVec 32 := Scalar.select v138 v139 v133
  let c1_i32_88 : BitVec 32 := 1#32
  let v141 : BitVec 32 := Scalar.muli v140 c1_i32_88
  let v142 : BitVec 32 := Scalar.addi c0_i32_89 v141
  v142.toNat
def k0_off16 (i : grid0.Coords) : Fin 2 → Nat :=
  let arg0 : BitVec 32 := BitVec.ofNat 32 (i 0).val
  let c5_i32_102 : BitVec 32 := 5#32
  ![arg0.toNat, 5]
def k0_off17 (i : grid0.Coords) : Fin 4 → Nat :=
  let arg0 : BitVec 32 := BitVec.ofNat 32 (i 0).val
  let c5_i32_100 : BitVec 32 := 5#32
  let c0_i32_105 : BitVec 32 := 0#32
  let c0_i32_106 : BitVec 32 := 0#32
  ![arg0.toNat, 5, 0, 0]
def k0_dev13 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v151 : BitVec 32 := Scalar.addi v2 c6_i32
  let c8_i32_94 : BitVec 32 := 8#32
  let c0_i32_95 : BitVec 32 := 0#32
  let v152 : BitVec 1 := Scalar.cmpi .eq c8_i32_94 c0_i32_95
  let c1_i32_96 : BitVec 32 := 1#32
  let v153 : BitVec 32 := Scalar.select v152 c1_i32_96 c8_i32_94
  let v154 : BitVec 32 := Scalar.remsi v151 v153
  let c0_i32_98 : BitVec 32 := 0#32
  let v156 : BitVec 1 := Scalar.cmpi .slt v154 c0_i32_98
  let c0_i32_99 : BitVec 32 := 0#32
  let v157 : BitVec 1 := Scalar.cmpi .slt v153 c0_i32_99
  let v158 : BitVec 1 := Scalar.xori v156 v157
  let c0_i32_97 : BitVec 32 := 0#32
  let v155 : BitVec 1 := Scalar.cmpi .ne v154 c0_i32_97
  let v159 : BitVec 1 := Scalar.andi v158 v155
  let v160 : BitVec 32 := Scalar.addi v154 v153
  let v161 : BitVec 32 := Scalar.select v159 v160 v154
  let c1_i32_103 : BitVec 32 := 1#32
  let v162 : BitVec 32 := Scalar.muli v161 c1_i32_103
  let v163 : BitVec 32 := Scalar.addi c0_i32_104 v162
  v163.toNat
def k0_off18 (i : grid0.Coords) : Fin 2 → Nat :=
  let arg0 : BitVec 32 := BitVec.ofNat 32 (i 0).val
  let c6_i32_117 : BitVec 32 := 6#32
  ![arg0.toNat, 6]
def k0_off19 (i : grid0.Coords) : Fin 4 → Nat :=
  let arg0 : BitVec 32 := BitVec.ofNat 32 (i 0).val
  let c6_i32_115 : BitVec 32 := 6#32
  let c0_i32_120 : BitVec 32 := 0#32
  let c0_i32_121 : BitVec 32 := 0#32
  ![arg0.toNat, 6, 0, 0]
def k0_dev14 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v172 : BitVec 32 := Scalar.addi v2 c7_i32
  let c8_i32_109 : BitVec 32 := 8#32
  let c0_i32_110 : BitVec 32 := 0#32
  let v173 : BitVec 1 := Scalar.cmpi .eq c8_i32_109 c0_i32_110
  let c1_i32_111 : BitVec 32 := 1#32
  let v174 : BitVec 32 := Scalar.select v173 c1_i32_111 c8_i32_109
  let v175 : BitVec 32 := Scalar.remsi v172 v174
  let c0_i32_113 : BitVec 32 := 0#32
  let v177 : BitVec 1 := Scalar.cmpi .slt v175 c0_i32_113
  let c0_i32_114 : BitVec 32 := 0#32
  let v178 : BitVec 1 := Scalar.cmpi .slt v174 c0_i32_114
  let v179 : BitVec 1 := Scalar.xori v177 v178
  let c0_i32_112 : BitVec 32 := 0#32
  let v176 : BitVec 1 := Scalar.cmpi .ne v175 c0_i32_112
  let v180 : BitVec 1 := Scalar.andi v179 v176
  let v181 : BitVec 32 := Scalar.addi v175 v174
  let v182 : BitVec 32 := Scalar.select v180 v181 v175
  let c1_i32_118 : BitVec 32 := 1#32
  let v183 : BitVec 32 := Scalar.muli v182 c1_i32_118
  let v184 : BitVec 32 := Scalar.addi c0_i32_119 v183
  v184.toNat
def k0_cond6 (i : grid0.Coords) : BitVec 1 :=
  let arg0 : BitVec 32 := BitVec.ofNat 32 (i 0).val
  let c0_i32_13 : BitVec 32 := 0#32
  let v41 : BitVec 1 := Scalar.cmpi .eq arg0 c0_i32_13
  let arg1 : BitVec 32 := BitVec.ofNat 32 (i 1).val
  let c3_i32_14 : BitVec 32 := 3#32
  let v42 : BitVec 1 := Scalar.cmpi .eq arg1 c3_i32_14
  let v43 : BitVec 1 := Scalar.andi v41 v42
  let v44 : BitVec 32 := Scalar.extui v43
  let c0_i32_15 : BitVec 32 := 0#32
  let v45 : BitVec 1 := Scalar.cmpi .ne v44 c0_i32_15
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 13
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .i32⟩
  | .hbm, ⟨2, _⟩ => ⟨S_, .bf16⟩
  | .hbm, ⟨3, _⟩ => ⟨S_, .i32⟩
  | .hbm, ⟨4, _⟩ => ⟨S1024, .bf16⟩
  | .hbm, ⟨5, _⟩ => ⟨S1024, .i32⟩
  | .hbm, ⟨6, _⟩ => ⟨S1024, .f32⟩
  | .hbm, ⟨7, _⟩ => ⟨S_, .bf16⟩
  | .hbm, ⟨8, _⟩ => ⟨S1024, .bf16⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S2x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Protocol.lean ====
/-
# The all-to-all exchange: who signals whom, who copies what where

Every device scans its own block of rows in four steps and keeps, per column, the largest value and its row in a
`1x2x1024` scratch (`pbuf`). At the third step it signals the barrier semaphore of its seven peers, at the fourth it
waits for seven, copies its pair of rows into a slot of its own on each of the seven peers (`rbuf`, seven slots) and
merges its own pair with the seven received ones.

A device's `k`-th signal and its `k`-th copy (`k` from 0 to 6) both go to the device `k + 1` places further. The signal
to a peer hands that peer the slot its copy will land in, so a device has handed all of its seven slots out before
any copy starts. One round of the rounds library per cell covers the protocol:

* a device's barrier cell has seven duties of one unit; duty `k` is paid by the device `k + 1` places back and hands
  over that device's slot;
* a send cell has one duty, which returns the share of `pbuf` the copy read;
* a receive cell has one duty, which delivers the slot filled by the device `k + 1` places back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own resource algebra: rounds on the machine's cells, duties numbered 0 to 6. -/
abbrev UX : Type := URounds (GSem nD τ sig) (Fin 7)
/-- Beside the pipeline's own. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Peers -/

/-- The device `k + 1` places further round the mesh: where `c`'s `k`-th signal and copy go. -/
def peer (c : Dev nD) (k : Fin 7) : Dev nD := ⟨(c.val + k.val + 1) % 8, Nat.mod_lt _ (by decide)⟩
/-- The device `k + 1` places back: whose `k`-th signal and copy come to `c`. -/
def back (c : Dev nD) (k : Fin 7) : Dev nD := ⟨(c.val + 7 - k.val) % 8, Nat.mod_lt _ (by decide)⟩
/-- Going `k + 1` places back is going `6 - k + 1` places further. -/
def rev (k : Fin 7) : Fin 7 := ⟨6 - k.val, by omega⟩

theorem back_peer (c : Dev nD) (k : Fin 7) : back (peer c k) k = c := by revert c k; decide
theorem peer_back (c : Dev nD) (k : Fin 7) : peer (back c k) k = c := by revert c k; decide
theorem back_eq (c : Dev nD) (k : Fin 7) : back c k = peer c (rev k) := by revert c k; decide
theorem rev_rev (k : Fin 7) : rev (rev k) = k := by revert k; decide

/-- One turn round the mesh by `k + 1` places. -/
def turn (k : Fin 7) : Dev nD ≃ Dev nD := ⟨fun c => peer c k, fun c => back c k, fun c => back_peer c k, fun c => peer_back c k⟩
/-- The duties counted from the other end. -/
def revEquiv : Fin 7 ≃ Fin 7 := ⟨rev, rev, rev_rev, rev_rev⟩

theorem dev1_eq (c : Dev nD) (h) : (⟨k0_dev1 c, h⟩ : Dev nD) = peer c 0 := Fin.ext (by revert c; decide +kernel)
theorem dev2_eq (c : Dev nD) (h) : (⟨k0_dev2 c, h⟩ : Dev nD) = peer c 1 := Fin.ext (by revert c; decide +kernel)
theorem dev3_eq (c : Dev nD) (h) : (⟨k0_dev3 c, h⟩ : Dev nD) = peer c 2 := Fin.ext (by revert c; decide +kernel)
theorem dev4_eq (c : Dev nD) (h) : (⟨k0_dev4 c, h⟩ : Dev nD) = peer c 3 := Fin.ext (by revert c; decide +kernel)
theorem dev5_eq (c : Dev nD) (h) : (⟨k0_dev5 c, h⟩ : Dev nD) = peer c 4 := Fin.ext (by revert c; decide +kernel)
theorem dev6_eq (c : Dev nD) (h) : (⟨k0_dev6 c, h⟩ : Dev nD) = peer c 5 := Fin.ext (by revert c; decide +kernel)
theorem dev7_eq (c : Dev nD) (h) : (⟨k0_dev7 c, h⟩ : Dev nD) = peer c 6 := Fin.ext (by revert c; decide +kernel)
theorem dev8_eq (c : Dev nD) (h) : (⟨k0_dev8 c, h⟩ : Dev nD) = peer c 0 := Fin.ext (by revert c; decide +kernel)
theorem dev9_eq (c : Dev nD) (h) : (⟨k0_dev9 c, h⟩ : Dev nD) = peer c 1 := Fin.ext (by revert c; decide +kernel)
theorem dev10_eq (c : Dev nD) (h) : (⟨k0_dev10 c, h⟩ : Dev nD) = peer c 2 := Fin.ext (by revert c; decide +kernel)
theorem dev11_eq (c : Dev nD) (h) : (⟨k0_dev11 c, h⟩ : Dev nD) = peer c 3 := Fin.ext (by revert c; decide +kernel)
theorem dev12_eq (c : Dev nD) (h) : (⟨k0_dev12 c, h⟩ : Dev nD) = peer c 4 := Fin.ext (by revert c; decide +kernel)
theorem dev13_eq (c : Dev nD) (h) : (⟨k0_dev13 c, h⟩ : Dev nD) = peer c 5 := Fin.ext (by revert c; decide +kernel)
theorem dev14_eq (c : Dev nD) (h) : (⟨k0_dev14 c, h⟩ : Dev nD) = peer c 6 := Fin.ext (by revert c; decide +kernel)

/-! ## Memrefs and cells -/

theorem inbP : ∀ a : Fin 3, (![0, 0, 0] : Fin 3 → ℕ) a + S1x2x1024.size a ≤ S1x2x1024.size a := by decide
theorem inbR (k : Fin 7) : ∀ a : Fin 4, (![0, k.val, 0, 0] : Fin 4 → ℕ) a + S1x1x2x1024.size a ≤ S1x7x2x1024.size a := by revert k; decide
theorem inbS (k : Fin 7) : ∀ a : Fin 2, (![0, k.val] : Fin 2 → ℕ) a + S1x1.size a ≤ S1x7.size a := by revert k; decide

/-- The pair of rows a device sends: its `pbuf`, squeezed. -/
abbrev pM : Memref sig .tc .vmem S2x1024 .f32 :=
  ((Memref.whole cc0_scratch0).slice (Rect.unit (s := S1x2x1024) ![0, 0, 0] S1x2x1024.size inbP) (fun _ => rfl)).squeeze S2x1024 squeezes_S1x2x1024_S2x1024
/-- Slot `k` of `rbuf`, squeezed. -/
abbrev rM (k : Fin 7) : Memref sig .tc .vmem S2x1024 .f32 :=
  ((Memref.whole cc0_scratch1).slice (Rect.unit (s := S1x7x2x1024) ![0, k.val, 0, 0] S1x1x2x1024.size (inbR k)) (fun _ => rfl)).squeeze S2x1024 squeezes_S1x1x2x1024_S2x1024

abbrev barS : Sem sig := (SemArray.scalar (sig.barrier 0 rfl) : Sems sig S_).sem
abbrev sendS (k : Fin 7) : DmaSem sig := ((cc0_scratch2.slice (Rect.unit (s := S1x7) ![0, k.val] S1x1.size (inbS k))).squeeze S_ squeezes_S1x1_S_).sem
abbrev recvS (k : Fin 7) : DmaSem sig := ((cc0_scratch3.slice (Rect.unit (s := S1x7) ![0, k.val] S1x1.size (inbS k))).squeeze S_ squeezes_S1x1_S_).sem

/-- The exchange's fifteen cells on a device: the barrier, seven sends, seven receives. -/
abbrev CI : Type := Unit ⊕ (Fin 7 ⊕ Fin 7)
abbrev iB : CI := .inl ()
abbrev iS (k : Fin 7) : CI := .inr (.inl k)
abbrev iR (k : Fin 7) : CI := .inr (.inr k)

def csem : CI → SemLoc sig
  | .inl _ => .reg barS
  | .inr (.inl k) => .dma (sendS k)
  | .inr (.inr k) => .dma (recvS k)

/-- Which of the exchange's cells a semaphore is, if any. -/
def cls : SemLoc sig → Option CI
  | .reg _ => some iB
  | .dma q => if h : 3 ≤ q.val ∧ q.val < 10 then some (iS ⟨q.val - 3, by omega⟩)
    else if h : 10 ≤ q.val ∧ q.val < 17 then some (iR ⟨q.val - 10, by omega⟩) else none

theorem sendS_val (k : Fin 7) : (sendS k).val = 3 + k.val := by revert k; decide
theorem recvS_val (k : Fin 7) : (recvS k).val = 10 + k.val := by revert k; decide

theorem cls_csem (i : CI) : cls (csem i) = some i := by
  rcases i with _ | k | k
  · rfl
  · have h := sendS_val k
    simp only [csem, cls]
    rw [dif_pos (by omega)]
    exact congrArg some (congrArg iS (Fin.ext (by simp only [h]; omega)))
  · have h := recvS_val k
    simp only [csem, cls]
    rw [dif_neg (by omega), dif_pos (by omega)]
    exact congrArg some (congrArg iR (Fin.ext (by simp only [h]; omega)))

abbrev kcell (ci : Dev nD × CI) : GSem nD τ sig := ((ci.1 : Thread nD τ), csem ci.2)
abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

theorem cls_bar : cls (.reg barS) = some iB := cls_csem iB
theorem cls_send (k : Fin 7) : cls (.dma (sendS k)) = some (iS k) := cls_csem (iS k)
theorem cls_recv (k : Fin 7) : cls (.dma (recvS k)) = some (iR k) := cls_csem (iR k)

theorem csem_injective : Function.Injective csem := fun i j h => Option.some.inj (by rw [← cls_csem i, ← cls_csem j, h])
theorem kcell_injective : Function.Injective (kcell : Dev nD × CI → GSem nD τ sig) := by
  rintro ⟨c, i⟩ ⟨c', i'⟩ h
  have h1 : c = c' := congrArg (fun g : GSem nD τ sig => g.1.1) h
  have h2 : i = i' := csem_injective (congrArg Prod.snd h)
  rw [h1, h2]

/-- What one copy credits: the credit of a slot. -/
abbrev N : ℕ := (rM 0).view.dmaCredit
theorem N_pos : 0 < N := View.dmaCredit_pos _ (by decide)
theorem credit_r (k : Fin 7) : (rM k).view.dmaCredit = N := rfl
theorem credit_p : pM.view.dmaCredit = N := by decide

end Cert.ArgMax

end
-- ==== Proof.Contents.lean ====
/-
# What the scratch buffers hold

`pbuf` is two rows of 1024, a running maximum and the row number it was found at; `rbuf` is seven such pairs. This module
names their contents by index and says what the kernel's loads, stores and copies do to them.
-/
module

public import proofs.«01_k».proof.Proof.Protocol

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Indices -/

def ix2 (j : Fin 2) (l : Fin 1024) : S2x1024.Idx := fun | 0 => j | 1 => l
def ix12 (l : Fin 1024) : S1x1024.Idx := fun | 0 => (0 : Fin 1) | 1 => l
def ix3 (l : Fin 1024) : S1x1x1024.Idx := fun | 0 => (0 : Fin 1) | 1 => (0 : Fin 1) | 2 => l
def ixP (j : Fin 2) (l : Fin 1024) : S1x2x1024.Idx := fun | 0 => (0 : Fin 1) | 1 => j | 2 => l
def ixR (k : Fin 7) (j : Fin 2) (l : Fin 1024) : S1x7x2x1024.Idx := fun | 0 => (0 : Fin 1) | 1 => k | 2 => j | 3 => l

theorem ix2_eta (x : S2x1024.Idx) : ix2 (x 0) (x 1) = x := funext fun a => by fin_cases a <;> rfl
theorem ix12_eta (x : S1x1024.Idx) : ix12 (x 1) = x := funext fun a => by
  fin_cases a
  · exact Fin.ext (by have h : (x 0).val < 1 := (x 0).isLt; show (0 : ℕ) = (x 0).val; omega)
  · rfl
theorem ix3_eta (x : S1x1x1024.Idx) : ix3 (x 2) = x := funext fun a => by
  fin_cases a
  · exact Fin.ext (by have h : (x 0).val < 1 := (x 0).isLt; show (0 : ℕ) = (x 0).val; omega)
  · exact Fin.ext (by have h : (x 1).val < 1 := (x 1).isLt; show (0 : ℕ) = (x 1).val; omega)
  · rfl
theorem ixP_eta (x : S1x2x1024.Idx) : ixP (x 1) (x 2) = x := funext fun a => by
  fin_cases a
  · exact Fin.ext (by have h : (x 0).val < 1 := (x 0).isLt; show (0 : ℕ) = (x 0).val; omega)
  · rfl
  · rfl
theorem ixR_eta (x : S1x7x2x1024.Idx) : ixR (x 1) (x 2) (x 3) = x := funext fun a => by
  fin_cases a
  · exact Fin.ext (by have h : (x 0).val < 1 := (x 0).isLt; show (0 : ℕ) = (x 0).val; omega)
  · rfl
  · rfl
  · rfl

/-! ## The pair of rows in `pbuf` -/

/-- `pbuf` holding the rows `v` and `w`. -/
def mk2 (v w : Vec F S1x1x1024 .f32) : (cc0_scratch0 : Ref sig .tc).ty.Contents (Elt F) :=
  fun ix : S1x2x1024.Idx => if (ix 1).val = 0 then v (ix3 (ix 2)) else w (ix3 (ix 2))

/-- The result holding the rows `v` and `w`. -/
def out2 (v w : Vec F S1x1024 .f32) : (cc0_stg1_0 : Ref sig .tc).ty.Contents (Elt F) :=
  fun ix : S2x1024.Idx => if (ix 0).val = 0 then v (ix12 (ix 1)) else w (ix12 (ix 1))

abbrev pW : Memref sig .tc .vmem S1x2x1024 .f32 := Memref.whole cc0_scratch0
abbrev rW : Memref sig .tc .vmem S1x7x2x1024 .f32 := Memref.whole cc0_scratch1
abbrev oW : Memref sig .tc .vmem S2x1024 .f32 := Memref.whole cc0_stg1_0

theorem emb_row (j : Fin 2) {o : Fin 3 → ℕ} (ho : o = ![0, j.val, 0]) (inb) (x : S1x1x1024.Idx) :
    (pW.access (Rect.unit (s := S1x2x1024) o S1x1x1024.size inb)).emb x = ixP j (x 2) := by
  subst ho
  funext a; apply Fin.ext
  show (Rect.unit (s := S1x2x1024) ![0, j.val, 0] S1x1x1024.size inb).off a + 1 * (x a).val = _
  fin_cases a
  · have h : (x 0).val < 1 := (x 0).isLt
    show 0 + 1 * (x 0).val = 0; omega
  · have h : (x 1).val < 1 := (x 1).isLt
    show j.val + 1 * (x 1).val = j.val; omega
  · show 0 + 1 * (x 2).val = (x 2).val; omega

theorem emb_orow (j : Fin 2) {o : Fin 2 → ℕ} (ho : o = ![j.val, 0]) (inb) (x : S1x1024.Idx) :
    (oW.access (Rect.unit (s := S2x1024) o S1x1024.size inb)).emb x = ix2 j (x 1) := by
  subst ho
  funext a; apply Fin.ext
  show (Rect.unit (s := S2x1024) ![j.val, 0] S1x1024.size inb).off a + 1 * (x a).val = _
  fin_cases a
  · have h : (x 0).val < 1 := (x 0).isLt
    show j.val + 1 * (x 0).val = j.val; omega
  · show 0 + 1 * (x 1).val = (x 1).val; omega

theorem emb_rrow (k : Fin 7) (j : Fin 2) {o : Fin 4 → ℕ} (ho : o = ![0, k.val, j.val, 0]) (inb) (x : S1x1x1x1024.Idx) :
    (rW.access (Rect.unit (s := S1x7x2x1024) o S1x1x1x1024.size inb)).emb x = ixR k j (x 3) := by
  subst ho
  funext a; apply Fin.ext
  show (Rect.unit (s := S1x7x2x1024) ![0, k.val, j.val, 0] S1x1x1x1024.size inb).off a + 1 * (x a).val = _
  fin_cases a
  · have h : (x 0).val < 1 := (x 0).isLt
    show 0 + 1 * (x 0).val = 0; omega
  · have h : (x 1).val < 1 := (x 1).isLt
    show k.val + 1 * (x 1).val = k.val; omega
  · have h : (x 2).val < 1 := (x 2).isLt
    show j.val + 1 * (x 2).val = j.val; omega
  · show 0 + 1 * (x 3).val = (x 3).val; omega

theorem emb_pM (x : S2x1024.Idx) : pM.view.emb x = ixP (x 0) (x 1) := by
  have h : Shape.reshapeEquiv (squeezes_S1x2x1024_S2x1024).numel_eq x = (ixP (x 0) (x 1) : S1x2x1024.Idx) :=
    Shape.reshapeEquiv_eq_of_rowMajor _ (by
      rw [Shape.rowMajor_val_three, Shape.rowMajor_val_two]
      show (0 * 2 + (x 0).val) * 1024 + (x 1).val = (x 0).val * 1024 + (x 1).val
      omega)
  show (Rect.unit (s := S1x2x1024) ![0, 0, 0] S1x2x1024.size inbP).emb (Shape.reshapeEquiv _ x) = _
  rw [h]
  funext a; apply Fin.ext
  show (Rect.unit (s := S1x2x1024) ![0, 0, 0] S1x2x1024.size inbP).off a + 1 * ((ixP (x 0) (x 1) : S1x2x1024.Idx) a).val = _
  fin_cases a
  · show 0 + 1 * 0 = 0; rfl
  · show 0 + 1 * (x 0).val = (x 0).val; omega
  · show 0 + 1 * (x 1).val = (x 1).val; omega

/-- An index into one slot. -/
def ixS (j : Fin 2) (l : Fin 1024) : S1x1x2x1024.Idx := fun | 0 => (0 : Fin 1) | 1 => (0 : Fin 1) | 2 => j | 3 => l

theorem emb_rM (k : Fin 7) (x : S2x1024.Idx) : (rM k).view.emb x = ixR k (x 0) (x 1) := by
  have h : Shape.reshapeEquiv (squeezes_S1x1x2x1024_S2x1024).numel_eq x = (ixS (x 0) (x 1) : S1x1x2x1024.Idx) :=
    Shape.reshapeEquiv_eq_of_rowMajor _ (by
      rw [Shape.rowMajor_val_four, Shape.rowMajor_val_two]
      show ((0 * 1 + 0) * 2 + (x 0).val) * 1024 + (x 1).val = (x 0).val * 1024 + (x 1).val
      omega)
  show (Rect.unit (s := S1x7x2x1024) ![0, k.val, 0, 0] S1x1x2x1024.size (inbR k)).emb (Shape.reshapeEquiv _ x) = _
  rw [h]
  funext a; apply Fin.ext
  show (Rect.unit (s := S1x7x2x1024) ![0, k.val, 0, 0] S1x1x2x1024.size (inbR k)).off a + 1 * ((ixS (x 0) (x 1) : S1x1x2x1024.Idx) a).val = _
  fin_cases a
  · show 0 + 1 * 0 = 0; rfl
  · show k.val + 1 * 0 = k.val; omega
  · show 0 + 1 * (x 0).val = (x 0).val; omega
  · show 0 + 1 * (x 1).val = (x 1).val; omega

/-- The row of `pbuf` at offsets `o`, as the kernel's loads and stores go through it. -/
abbrev prow (o : Fin 3 → ℕ) (inb : ∀ a : Fin 3, o a + S1x1x1024.size a ≤ S1x2x1024.size a) : View sig .tc .vmem S1x1x1024 .f32 := pW.access (Rect.unit (s := S1x2x1024) o S1x1x1024.size inb)
/-- The row of the result at offsets `o`. -/
abbrev orow (o : Fin 2 → ℕ) (inb : ∀ a : Fin 2, o a + S1x1024.size a ≤ S2x1024.size a) : View sig .tc .vmem S1x1024 .f32 := oW.access (Rect.unit (s := S2x1024) o S1x1024.size inb)

omit [FloatOps F] in
theorem prow_write_same (j : Fin 2) {o : Fin 3 → ℕ} (ho : o = ![0, j.val, 0]) (inb)
    (f : (cc0_scratch0 : Ref sig .tc).ty.Contents (Elt F)) (v : Vec F S1x1x1024 .f32) (l : Fin 1024) :
    (prow o inb).write (Elt F) f v Finset.univ (ixP j l) = v (ix3 l) :=
  (congrArg ((prow o inb).write (Elt F) f v Finset.univ) (emb_row j ho inb (ix3 l)).symm).trans
    (View.write_emb_of_mem (v := prow o inb) f v (Finset.mem_univ (ix3 l)))

omit [FloatOps F] in
theorem prow_write_other (j j' : Fin 2) (hj : j ≠ j') {o : Fin 3 → ℕ} (ho : o = ![0, j.val, 0]) (inb)
    (f : (cc0_scratch0 : Ref sig .tc).ty.Contents (Elt F)) (v : Vec F S1x1x1024 .f32) (l : Fin 1024) :
    (prow o inb).write (Elt F) f v Finset.univ (ixP j' l) = f (ixP j' l) :=
  View.write_of_not_mem (v := prow o inb) f v Finset.univ (fun hm => by
    obtain ⟨y, -, hy⟩ := Finset.mem_map.mp hm
    exact hj (congrFun ((emb_row j ho inb y).symm.trans hy) 1))

omit [FloatOps F] in
theorem orow_write_same (j : Fin 2) {o : Fin 2 → ℕ} (ho : o = ![j.val, 0]) (inb)
    (f : (cc0_stg1_0 : Ref sig .tc).ty.Contents (Elt F)) (v : Vec F S1x1024 .f32) (l : Fin 1024) :
    (orow o inb).write (Elt F) f v Finset.univ (ix2 j l) = v (ix12 l) :=
  (congrArg ((orow o inb).write (Elt F) f v Finset.univ) (emb_orow j ho inb (ix12 l)).symm).trans
    (View.write_emb_of_mem (v := orow o inb) f v (Finset.mem_univ (ix12 l)))

omit [FloatOps F] in
theorem orow_write_other (j j' : Fin 2) (hj : j ≠ j') {o : Fin 2 → ℕ} (ho : o = ![j.val, 0]) (inb)
    (f : (cc0_stg1_0 : Ref sig .tc).ty.Contents (Elt F)) (v : Vec F S1x1024 .f32) (l : Fin 1024) :
    (orow o inb).write (Elt F) f v Finset.univ (ix2 j' l) = f (ix2 j' l) :=
  View.write_of_not_mem (v := orow o inb) f v Finset.univ (fun hm => by
    obtain ⟨y, -, hy⟩ := Finset.mem_map.mp hm
    exact hj (congrFun ((emb_orow j ho inb y).symm.trans hy) 0))

omit [FloatOps F] in
theorem mk2_ixP0 (v w : Vec F S1x1x1024 .f32) (l : Fin 1024) : mk2 v w (ixP 0 l) = v (ix3 l) := if_pos rfl
omit [FloatOps F] in
theorem mk2_ixP1 (v w : Vec F S1x1x1024 .f32) (l : Fin 1024) : mk2 v w (ixP 1 l) = w (ix3 l) := if_neg Nat.one_ne_zero

theorem fin2_cases (j : Fin 2) : j = 0 ∨ j = 1 := by revert j; decide

omit [FloatOps F] in
/-- Both rows stored, whatever was there: `pbuf` holds the pair. -/
theorem write_rows {o0 o1 : Fin 3 → ℕ} (h0 : o0 = ![0, 0, 0]) (h1 : o1 = ![0, 1, 0]) (inb0) (inb1)
    (f : (cc0_scratch0 : Ref sig .tc).ty.Contents (Elt F)) (v w : Vec F S1x1x1024 .f32) :
    (prow o1 inb1).write (Elt F) ((prow o0 inb0).write (Elt F) f v Finset.univ) w Finset.univ = mk2 v w := by
  have key : ∀ (j : Fin 2) (l : Fin 1024), (prow o1 inb1).write (Elt F) ((prow o0 inb0).write (Elt F) f v Finset.univ) w Finset.univ (ixP j l) = mk2 v w (ixP j l) := by
    intro j l
    rcases fin2_cases j with rfl | rfl
    · exact (prow_write_other 1 0 (by decide) h1 inb1 _ w l).trans ((prow_write_same 0 h0 inb0 f v l).trans (mk2_ixP0 v w l).symm)
    · exact (prow_write_same 1 h1 inb1 _ w l).trans (mk2_ixP1 v w l).symm
  funext ix
  have e : ixP (ix 1) (ix 2) = ix := ixP_eta ix
  exact e ▸ key (ix 1) (ix 2)

omit [FloatOps F] in
/-- Both rows of the result stored, whatever was there. -/
theorem write_orows {o0 o1 : Fin 2 → ℕ} (h0 : o0 = ![0, 0]) (h1 : o1 = ![1, 0]) (inb0) (inb1)
    (f : (cc0_stg1_0 : Ref sig .tc).ty.Contents (Elt F)) (v w : Vec F S1x1024 .f32) :
    (orow o1 inb1).write (Elt F) ((orow o0 inb0).write (Elt F) f v Finset.univ) w Finset.univ = out2 v w := by
  have key : ∀ (j : Fin 2) (l : Fin 1024), (orow o1 inb1).write (Elt F) ((orow o0 inb0).write (Elt F) f v Finset.univ) w Finset.univ (ix2 j l) = out2 v w (ix2 j l) := by
    intro j l
    rcases fin2_cases j with rfl | rfl
    · exact (orow_write_other 1 0 (by decide) h1 inb1 _ w l).trans ((orow_write_same 0 h0 inb0 f v l).trans (if_pos rfl).symm)
    · exact (orow_write_same 1 h1 inb1 _ w l).trans (if_neg Nat.one_ne_zero).symm
  funext ix
  have e : ix2 (ix 0) (ix 1) = ix := ix2_eta ix
  exact e ▸ key (ix 0) (ix 1)

omit [FloatOps F] in
theorem read_row0 {o : Fin 3 → ℕ} (h : o = ![0, 0, 0]) (inb) (v w : Vec F S1x1x1024 .f32) :
    pW.view.readAt (Elt F) (Rect.unit (s := S1x2x1024) o S1x1x1024.size inb).toLoadRect (mk2 v w) = v :=
  funext fun x => (congrArg (mk2 v w) (emb_row 0 h inb x)).trans ((mk2_ixP0 v w _).trans (congrArg v (ix3_eta x)))

omit [FloatOps F] in
theorem read_row1 {o : Fin 3 → ℕ} (h : o = ![0, 1, 0]) (inb) (v w : Vec F S1x1x1024 .f32) :
    pW.view.readAt (Elt F) (Rect.unit (s := S1x2x1024) o S1x1x1024.size inb).toLoadRect (mk2 v w) = w :=
  funext fun x => (congrArg (mk2 v w) (emb_row 1 h inb x)).trans ((mk2_ixP1 v w _).trans (congrArg w (ix3_eta x)))

omit [FloatOps F] in
/-- Storing the first row leaves what a load of the second reads. -/
theorem read_row1_write {o0 o1 : Fin 3 → ℕ} (h0 : o0 = ![0, 0, 0]) (h1 : o1 = ![0, 1, 0]) (inb0) (inb1) (v w v' : Vec F S1x1x1024 .f32) :
    pW.view.readAt (Elt F) (Rect.unit (s := S1x2x1024) o1 S1x1x1024.size inb1).toLoadRect
      ((prow o0 inb0).write (Elt F) (mk2 v w) v' Finset.univ) = w :=
  funext fun x => (congrArg ((prow o0 inb0).write (Elt F) (mk2 v w) v' Finset.univ) (emb_row 1 h1 inb1 x)).trans
    ((prow_write_other 0 1 (by decide) h0 inb0 (mk2 v w) v' _).trans ((mk2_ixP1 v w _).trans (congrArg w (ix3_eta x))))

/-! ## The seven pairs in `rbuf` -/

/-- Row `j` of `pbuf` contents `p`, as a load of a row of a slot gives it. -/
def rowOf (p : (cc0_scratch0 : Ref sig .tc).ty.Contents (Elt F)) (j : Fin 2) : Vec F S1x1x1x1024 .f32 := fun x => p (ixP j (x 3))

/-- `rbuf` with slot `k` holding `ps k`. -/
def mk7 (ps : Fin 7 → (cc0_scratch0 : Ref sig .tc).ty.Contents (Elt F)) : (cc0_scratch1 : Ref sig .tc).ty.Contents (Elt F) :=
  fun ix : S1x7x2x1024.Idx => ps (ix 1) (ixP (ix 2) (ix 3))

omit [FloatOps F] in
theorem read_rrow (k : Fin 7) (j : Fin 2) {o : Fin 4 → ℕ} (h : o = ![0, k.val, j.val, 0]) (inb) (ps : Fin 7 → (cc0_scratch0 : Ref sig .tc).ty.Contents (Elt F)) :
    rW.view.readAt (Elt F) (Rect.unit (s := S1x7x2x1024) o S1x1x1x1024.size inb).toLoadRect (mk7 ps) = rowOf (ps k) j :=
  funext fun x => congrArg (mk7 ps) (emb_rrow k j h inb x)

/-- The elements of slot `k`. -/
abbrev slotSet (k : Fin 7) : Finset S1x7x2x1024.Idx := (rM k).view.set

theorem mem_slotSet (k : Fin 7) (ix : S1x7x2x1024.Idx) : ix ∈ slotSet k ↔ ix 1 = k := by
  constructor
  · intro h
    obtain ⟨y, -, rfl⟩ := Finset.mem_map.mp h
    rw [emb_rM]; rfl
  · intro h
    refine Finset.mem_map.mpr ⟨ix2 (ix 2) (ix 3), Finset.mem_univ _, ?_⟩
    rw [emb_rM, ← h]
    exact ixR_eta ix

theorem slot_disjoint (k k' : Fin 7) (h : k ≠ k') : Disjoint (slotSet k) (slotSet k') :=
  Finset.disjoint_left.mpr fun ix h1 h2 => h (((mem_slotSet k ix).mp h1).symm.trans ((mem_slotSet k' ix).mp h2))

theorem slot_cover : Finset.univ.biUnion slotSet = Finset.univ :=
  Finset.eq_univ_iff_forall.mpr fun ix => Finset.mem_biUnion.mpr ⟨ix 1, Finset.mem_univ _, (mem_slotSet _ ix).mpr rfl⟩

theorem pM_set : pM.view.set = Finset.univ :=
  Finset.eq_univ_iff_forall.mpr fun ix => Finset.mem_map.mpr ⟨ix2 (ix 1) (ix 2), Finset.mem_univ _, by rw [emb_pM]; exact ixP_eta ix⟩

omit [FloatOps F] in
/-- A copy of `pbuf` into slot `k` leaves, on that slot, what `mk7` says. -/
theorem landed_on (k : Fin 7) (fd : (cc0_scratch1 : Ref sig .tc).ty.Contents (Elt F)) (ps : Fin 7 → (cc0_scratch0 : Ref sig .tc).ty.Contents (Elt F)) :
    ∀ ix ∈ slotSet k, (rM k).view.write (Elt F) fd (pM.view.read (Elt F) (ps k)) Finset.univ ix = mk7 ps ix := by
  intro ix h
  obtain ⟨y, -, rfl⟩ := Finset.mem_map.mp h
  refine (View.write_emb_of_mem (v := (rM k).view) fd _ (Finset.mem_univ y)).trans ?_
  exact (congrArg (ps k) (emb_pM y)).trans (congrArg (mk7 ps) (emb_rM k y)).symm

end Cert.ArgMax

end
-- ==== Proof.Schedule.lean ====
/-
# The exchange's schedule

What every device computes at each of its four points, the rounds of the exchange's cells (who pays what, and what each
payment hands over), what a device owes at each point, and the pipeline's proof data.
-/
module

public import proofs.«01_k».proof.Proof.Contents

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What each device computes -/

/-- The block of rows device `c` reads at point `t`. -/
def xblk (c : Dev nD) (t : Fin cfg0.N) : Vec F S2048x1024 .bf16 :=
  (win0_0.blk t).view.read (Elt F) ((s₀ m ρ).mem ((c : Thread nD τ).loc main_arg0))

/-- A running pair: per column the largest value so far and its row. -/
abbrev Pr (F : FTy → Type) : Type := Vec F S1x1x1024 .f32 × Vec F S1x1x1024 .f32

/-- The pair after the first block, -/
def first (c : Dev nD) (t : Fin cfg0.N) (x : Vec F S2048x1024 .bf16) : Pr F := (k0_pay41 x, k0_pay42 (grid0.coords t) c x)
/-- and one more block taken in. -/
def next (c : Dev nD) (t : Fin cfg0.N) (x : Vec F S2048x1024 .bf16) (p : Pr F) : Pr F := (k0_pay44 x p.1 p.1, k0_pay45 (grid0.coords t) c x p.1 p.2)

def pr0 (c : Dev nD) : Pr F := first c t0_0 (xblk m ρ c t0_0)
def pr1 (c : Dev nD) : Pr F := next c t0_1 (xblk m ρ c t0_1) (pr0 m ρ c)
def pr2 (c : Dev nD) : Pr F := next c t0_2 (xblk m ρ c t0_2) (pr1 m ρ c)
def pr3 (c : Dev nD) : Pr F := next c t0_3 (xblk m ρ c t0_3) (pr2 m ρ c)

abbrev PC (F : FTy → Type) : Type := (cc0_scratch0 : Ref sig .tc).ty.Contents (Elt F)
abbrev RC (F : FTy → Type) : Type := (cc0_scratch1 : Ref sig .tc).ty.Contents (Elt F)

def pbuf (p : Pr F) : PC F := mk2 p.1 p.2

/-- What device `c` sends: its pair after all four blocks. -/
def sent (c : Dev nD) : PC F := pbuf (pr3 m ρ c)
/-- What lands in device `c`'s slot `k`. -/
def got (c : Dev nD) (k : Fin 7) : PC F := sent m ρ (back c k)

/-- The device's own pair merged with the seven of `ps`, one after the other. -/
def merged (p : Pr F) (ps : Fin 7 → PC F) : (cc0_stg1_0 : Ref sig .tc).ty.Contents (Elt F) :=
  let v222 := k0_pay6 p.1
  let v256 := k0_pay21 v222 p.2 (rowOf (ps 0) 0) (rowOf (ps 0) 1) (rowOf (ps 1) 0) (rowOf (ps 1) 1) (rowOf (ps 2) 0) (rowOf (ps 2) 1)
  let v257 := k0_pay22 v222 p.2 (rowOf (ps 0) 0) (rowOf (ps 0) 1) (rowOf (ps 1) 0) (rowOf (ps 1) 1) (rowOf (ps 2) 0) (rowOf (ps 2) 1)
  let v289 := k0_pay36 v256 v257 (rowOf (ps 3) 0) (rowOf (ps 3) 1) (rowOf (ps 4) 0) (rowOf (ps 4) 1) (rowOf (ps 5) 0) (rowOf (ps 5) 1)
  let v290 := k0_pay37 v256 v257 (rowOf (ps 3) 0) (rowOf (ps 3) 1) (rowOf (ps 4) 0) (rowOf (ps 4) 1) (rowOf (ps 5) 0) (rowOf (ps 5) 1)
  out2 (k0_pay4 v289 v290 (rowOf (ps 6) 0) (rowOf (ps 6) 1)) (k0_pay5 v289 v290 (rowOf (ps 6) 0) (rowOf (ps 6) 1))

/-- The kernel's result on device `c`. -/
def outAt (c : Dev nD) : (cc0_stg1_0 : Ref sig .tc).ty.Contents (Elt F) := merged (pr3 m ρ c) (got m ρ c)

/-! ## The pieces of memory that change hands -/

/-- One of the eight parts of a full share. -/
abbrev part (i : Fin 8) : PosShare TreeShare := ShareLeaves.leaf 3 fullShare i

def slotPts (c : Dev nD) (k : Fin 7) (f : RC F) : sProp 𝕄 := (rM k).view.loc (c : Thread nD τ) ↦[(rM k).view.set]{fullShare} f
def pPts (c : Dev nD) (i : Fin 8) (f : PC F) : sProp 𝕄 := pM.view.loc (c : Thread nD τ) ↦[pM.view.set]{part i} f

omit [FloatOps F] in
instance slotPts_storable (c : Dev nD) (k : Fin 7) (f : RC F) : BI.Storable (upEmb : UEmb _ 𝕄) (slotPts (F := F) c k f) := by unfold slotPts; infer_instance
omit [FloatOps F] in
instance pPts_storable (c : Dev nD) (i : Fin 8) (f : PC F) : BI.Storable (upEmb : UEmb _ 𝕄) (pPts (F := F) c i f) := by unfold pPts; infer_instance

/-! ## The schedule -/

/-- Duty `k` of `c`'s barrier cell: the device `k + 1` places back hands over its slot for `c`'s copy. -/
def barPay (c : Dev nD) (k : Fin 7) : sProp 𝕄 := iprop(∃ f, slotPts (back c k) (rev k) f)
def sendPay (c : Dev nD) (k : Fin 7) : sProp 𝕄 := pPts c k.castSucc (sent m ρ c)
def recvPay (c : Dev nD) (k : Fin 7) : sProp 𝕄 := slotPts c k (mk7 (got m ρ c))

def duties' : Option CI → Finset (Fin 7)
  | some (.inl _) => Finset.univ
  | some (.inr _) => {0}
  | none => ∅
def amount' : Option CI → ℕ
  | some (.inl _) => 1
  | _ => N
def payload' (c : Dev nD) : Option CI → Fin 7 → sProp 𝕄
  | some (.inl _), d => barPay c d
  | some (.inr (.inl k)), _ => sendPay m ρ c k
  | some (.inr (.inr k)), _ => recvPay m ρ c k
  | none, _ => iprop(emp)

theorem amount'_pos (o : Option CI) : 0 < amount' o := by
  rcases o with _ | (_ | _)
  · exact N_pos
  · exact Nat.one_pos
  · exact N_pos

/-- One round, round 0, on the TensorCores' cells. -/
def Rd : Rounds.Schedule (GSem nD τ sig) (Fin 7) 𝕄 where
  duties g r := if r = 0 ∧ g.1.2 = .tc then duties' (cls g.2) else ∅
  unitless _ := False
  amount g _ _ := amount' (cls g.2)
  payload g _ d := payload' m ρ g.1.1 (cls g.2) d
  amount_pos g _ _ _ := amount'_pos _

instance Rd_payload_storable (g : GSem nD τ sig) (r : ℕ) (d : Fin 7) : BI.Storable (upEmb : UEmb _ 𝕄) ((Rd (F := F) m ρ).payload g r d) := by
  show BI.Storable upEmb (payload' m ρ g.1.1 (cls g.2) d)
  rcases cls g.2 with _ | (_ | (_ | _))
  · show BI.Storable upEmb iprop(emp); infer_instance
  · show BI.Storable upEmb (barPay g.1.1 d); unfold barPay; infer_instance
  · show BI.Storable upEmb (sendPay m ρ g.1.1 _); unfold sendPay; infer_instance
  · show BI.Storable upEmb (recvPay m ρ g.1.1 _); unfold recvPay; infer_instance

section Sched
variable (c : Dev nD) (k : Fin 7)

theorem duties_bar : (Rd (F := F) m ρ).duties (barCell c) 0 = Finset.univ := by
  dsimp only [Rd]; rw [if_pos ⟨rfl, rfl⟩, cls_bar]; rfl
theorem duties_send : (Rd (F := F) m ρ).duties (sendCell c k) 0 = {0} := by
  dsimp only [Rd]; rw [if_pos ⟨rfl, rfl⟩, cls_send]; rfl
theorem duties_recv : (Rd (F := F) m ρ).duties (recvCell c k) 0 = {0} := by
  dsimp only [Rd]; rw [if_pos ⟨rfl, rfl⟩, cls_recv]; rfl
theorem duties_later (g : GSem nD τ sig) : ∀ r, 1 ≤ r → (Rd (F := F) m ρ).duties g r = ∅ :=
  fun r hr => if_neg fun h => by omega

theorem amount_bar (d : Fin 7) : (Rd (F := F) m ρ).amount (barCell c) 0 d = 1 := congrArg amount' cls_bar
theorem amount_send (d : Fin 7) : (Rd (F := F) m ρ).amount (sendCell c k) 0 d = N := congrArg amount' (cls_send k)
theorem amount_recv (d : Fin 7) : (Rd (F := F) m ρ).amount (recvCell c k) 0 d = N := congrArg amount' (cls_recv k)

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c k) 0 = N := by
  unfold Schedule.expect Schedule.amountOf; rw [duties_send, Finset.sum_singleton, amount_send]
theorem expect_recv : (Rd (F := F) m ρ).expect (recvCell c k) 0 = N := by
  unfold Schedule.expect Schedule.amountOf; rw [duties_recv, Finset.sum_singleton, amount_recv]

theorem payload_bar (d : Fin 7) : (Rd (F := F) m ρ).payload (barCell c) 0 d = barPay c d :=
  congrArg (fun o => payload' m ρ c o d) cls_bar
theorem payload_send (d : Fin 7) : (Rd (F := F) m ρ).payload (sendCell c k) 0 d = sendPay m ρ c k :=
  congrArg (fun o => payload' m ρ c o d) (cls_send k)
theorem payload_recv (d : Fin 7) : (Rd (F := F) m ρ).payload (recvCell c k) 0 d = recvPay m ρ c k :=
  congrArg (fun o => payload' m ρ c o d) (cls_recv k)

/-- All that the barrier cell's round hands over. -/
theorem rest_bar : bigSep ((Rd (F := F) m ρ).duties (barCell c) 0 \ ∅) (fun d => (Rd (F := F) m ρ).payload (barCell c) 0 d)
    = bigSep Finset.univ fun d : Fin 7 => barPay c d := by
  rw [Finset.sdiff_empty, duties_bar]; exact bigSep_congr fun d _ => payload_bar m ρ c d
theorem rest_send : bigSep ((Rd (F := F) m ρ).duties (sendCell c k) 0 \ ∅) (fun d => (Rd (F := F) m ρ).payload (sendCell c k) 0 d) = sendPay m ρ c k := by
  rw [Finset.sdiff_empty, duties_send, bigSep_singleton, payload_send]
theorem rest_recv : bigSep ((Rd (F := F) m ρ).duties (recvCell c k) 0 \ ∅) (fun d => (Rd (F := F) m ρ).payload (recvCell c k) 0 d) = recvPay m ρ c k := by
  rw [Finset.sdiff_empty, duties_recv, bigSep_singleton, payload_recv]

end Sched

/-! ## What each device owes, and the levels -/

/-- The last `n` of `c`'s seven copies, -/
def owR (c : Dev nD) : ℕ → CellTallies nD τ sig Unit
  | 0 => 0
  | n + 1 => owR c n + tallyAt (recvCell (peer c ⟨6 - n, by omega⟩) ⟨6 - n, by omega⟩) () N
/-- and all seven after the last `n` of its signals. -/
def owB (c : Dev nD) : ℕ → CellTallies nD τ sig Unit
  | 0 => owR c 7
  | n + 1 => owB c n + tallyAt (barCell (peer c ⟨6 - n, by omega⟩)) () 1

theorem owR_step (c : Dev nD) (k : Fin 7) : owR c (7 - k.val) = owR c (6 - k.val) + tallyAt (recvCell (peer c k) k) () N := by fin_cases k <;> rfl
theorem owB_step (c : Dev nD) (k : Fin 7) : owB c (7 - k.val) = owB c (6 - k.val) + tallyAt (barCell (peer c k)) () 1 := by fin_cases k <;> rfl

def L (g : GSem nD τ sig) : Finset Unit := if g.1.2 = .tc then {()} else ∅
def lv' : Option CI → ℕ
  | some (.inl _) => 1
  | some (.inr (.inr _)) => 2
  | _ => 0
/-- Barrier cells at 1, receive cells at 2, everything else at 0. -/
def lv (g : GSem nD τ sig) (_ : Unit) : ℕ := lv' (cls g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := congrArg lv' cls_bar
theorem lv_recv (c : Dev nD) (k : Fin 7) (u : Unit) : lv (recvCell c k) u = 2 := congrArg lv' (cls_recv k)

theorem add_tally_pos {O : CellTallies nD τ sig Unit} {g₀ g : GSem nD τ sig} {u : Unit} {n : ℕ} (h : 0 < (O + tallyAt g₀ () n) g u) :
    0 < O g u ∨ g = g₀ := by
  rw [Pi.add_apply, Finsupp.add_apply, tallyAt_apply] at h
  by_cases hg : g = g₀
  · exact .inr hg
  · rw [if_neg (fun h' => hg h'.1)] at h; exact .inl h

theorem owR_pos (c : Dev nD) {g : GSem nD τ sig} {u : Unit} : ∀ n, 0 < owR c n g u → ∃ d k, g = recvCell d k
  | 0, h => absurd h (Nat.lt_irrefl 0)
  | n + 1, h => by
    rcases add_tally_pos h with h | h
    · exact owR_pos c n h
    · exact ⟨_, _, h⟩
theorem owB_pos (c : Dev nD) {g : GSem nD τ sig} {u : Unit} : ∀ n, 0 < owB c n g u → (∃ d k, g = recvCell d k) ∨ ∃ d, g = barCell d
  | 0, h => .inl (owR_pos c 7 h)
  | n + 1, h => by
    rcases add_tally_pos h with h | h
    · exact owB_pos c n h
    · exact .inr ⟨_, h⟩

omit [FloatOps F] in
/-- A wait on a staging cell is below everything a device may owe then. -/
theorem mayWait_stage (c : Dev nD) (q : DmaSem sig) (hq : cls (.dma q) = none) (O : CellTallies nD τ sig Unit) (hO : O = owB c 7 ∨ O = owR c 7 ∨ O = 0) :
    (levAts L lv : sProp 𝕄) ⊢ MayWait (c : Thread nD τ) (.dma q) () O := by
  have hpos : ∀ g u, 0 < O g u → (∃ d k, g = recvCell d k) ∨ ∃ d, g = barCell d := by
    rcases hO with rfl | rfl | rfl
    · exact fun g u h => owB_pos c 7 h
    · exact fun g u h => .inl (owR_pos c 7 h)
    · exact fun g u h => absurd h (Nat.lt_irrefl 0)
  refine MayOwe.of_cut (L := L) (lev := lv) 0 (fun p hp => by rw [Finset.mem_singleton.mp hp, L_tc]; exact Finset.mem_singleton_self _)
    (fun g u hg => by rcases hpos g u hg with ⟨d, k, rfl⟩ | ⟨d, rfl⟩ <;> exact Finset.mem_singleton_self _)
    (fun p hp => by rw [Finset.mem_singleton.mp hp]; exact (congrArg lv' hq).le)
    (fun g u hg => by
      rcases hpos g u hg with ⟨d, k, rfl⟩ | ⟨d, rfl⟩
      · rw [lv_recv]; decide
      · rw [lv_bar]; decide)

omit [FloatOps F] in
/-- At its barrier wait a device owes its copies only. -/
theorem mayWait_bar (c : Dev nD) : (levAts L lv : sProp 𝕄) ⊢ MayWait (c : Thread nD τ) (.reg barS) () (owR c 7) :=
  MayOwe.of_cut (L := L) (lev := lv) 1 (fun p hp => by rw [Finset.mem_singleton.mp hp, L_tc]; exact Finset.mem_singleton_self _)
    (fun g u hg => by obtain ⟨d, k, rfl⟩ := owR_pos c 7 hg; exact Finset.mem_singleton_self _)
    (fun p hp => by rw [Finset.mem_singleton.mp hp]; exact (lv_bar c ()).le)
    (fun g u hg => by obtain ⟨d, k, rfl⟩ := owR_pos c 7 hg; rw [lv_recv]; decide)

/-! ## The ghost state -/

/-- All the cells' invariants, under the names `K` the launch allocated them at, and that each has reached round 0. -/
def records (K : Dev nD × CI → ℕ) : sProp 𝕄 :=
  iprop((bigSep Finset.univ fun ci : Dev nD × CI => cellInv EX (Rd m ρ) (K ci) (kcell ci)) ∗ bigSep Finset.univ fun ci : Dev nD × CI => reached EX (kcell ci) 0)

instance records_persistent (K : Dev nD × CI → ℕ) : BI.Persistent (records m ρ K) := by unfold records; infer_instance

theorem inv_at (K : Dev nD × CI → ℕ) (ci : Dev nD × CI) : records m ρ K ⊢ cellInv EX (Rd m ρ) (K ci) (kcell ci) := by
  unfold records
  exact (BI.sep_and.trans BI.and_elimL).trans (bigSep_elim (Finset.mem_univ ci))
theorem reached_at (K : Dev nD × CI → ℕ) (ci : Dev nD × CI) : records m ρ K ⊢ reached EX (kcell ci) 0 := by
  unfold records
  exact (BI.sep_and.trans BI.and_elimR).trans (bigSep_elim (Finset.mem_univ ci))

def toksB (c : Dev nD) : sProp 𝕄 := bigSep Finset.univ fun k : Fin 7 => dutyTok EX (barCell (peer c k)) 0 k
def toksR (c : Dev nD) : sProp 𝕄 := bigSep Finset.univ fun k : Fin 7 => dutyTok EX (recvCell (peer c k) k) 0 0
def toksS (c : Dev nD) : sProp 𝕄 := bigSep Finset.univ fun k : Fin 7 => dutyTok EX (sendCell c k) 0 0
def atB (c : Dev nD) : sProp 𝕄 := atPos EX (barCell c) 0 ∅ 0
def atS (c : Dev nD) : sProp 𝕄 := bigSep Finset.univ fun k : Fin 7 => atPos EX (sendCell c k) 0 ∅ 0
def atR (c : Dev nD) : sProp 𝕄 := bigSep Finset.univ fun k : Fin 7 => atPos EX (recvCell c k) 0 ∅ 0
def credB (c : Dev nD) : sProp 𝕄 := cred (tallyAt (barCell c) () 7)
def credR (c : Dev nD) : sProp 𝕄 := bigSep Finset.univ fun k : Fin 7 => cred (tallyAt (recvCell c k) () N)

/-- What a device holds of the exchange once it has signalled: its positions, the tokens of its copies, its credit. -/
def after (c : Dev nD) : sProp 𝕄 := iprop(toksR c ∗ toksS c ∗ atB c ∗ atS c ∗ atR c ∗ credB c ∗ credR c ∗ levAts L lv)
/-- And before: the tokens of its signals too. -/
def start (c : Dev nD) : sProp 𝕄 := iprop((∃ K, records m ρ K) ∗ toksB c ∗ after c)

abbrev scrP (c : Dev nD) (f : PC F) : sProp 𝕄 := ((c : Thread nD τ).loc cc0_scratch0) ↦{fullShare} f
abbrev scrR (c : Dev nD) (f : RC F) : sProp 𝕄 := ((c : Thread nD τ).loc cc0_scratch1) ↦{fullShare} f

def semsZero (c : Dev nD) : sProp 𝕄 :=
  iprop(semVal (barCell c) 0 ∗ (bigSep Finset.univ fun k : Fin 7 => semVal (sendCell c k) 0) ∗ bigSep Finset.univ fun k : Fin 7 => semVal (recvCell c k) 0)

/-- The device's own state before point `n`: untouched; the first pair; the second; the third, its signals sent and so its
    slots handed out; and at the end the received slots back and every cell at zero. -/
def Φ (c : Dev nD) : ℕ → sProp 𝕄
  | 0 => iprop(start m ρ c ∗ (∃ f, scrP c f) ∗ ∃ f, scrR c f)
  | 1 => iprop(start m ρ c ∗ scrP c (pbuf (pr0 m ρ c)) ∗ ∃ f, scrR c f)
  | 2 => iprop(start m ρ c ∗ scrP c (pbuf (pr1 m ρ c)) ∗ ∃ f, scrR c f)
  | 3 => iprop((∃ K, records m ρ K) ∗ after c ∗ scrP c (pbuf (pr2 m ρ c)))
  | _ => iprop((∃ f, scrP c f) ∗ (∃ f, scrR c f) ∗ semsZero c)

def owedAt (c : Dev nD) : ℕ → CellTallies nD τ sig Unit
  | 0 | 1 | 2 => owB c 7
  | 3 => owR c 7
  | _ => 0

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m ρ c t
    | ⟨1, _⟩ => outAt m ρ c
  Φ t := Φ m ρ c t.val
  q _ := fullShare
  owed t := owedAt c t.val

abbrev 𝒱₀ : Variants := Variants.none

end Cert.ArgMax

end
-- ==== Proof.Steps.lean ====
/-
# The exchange's steps

One lemma for each kind of effect the exchange performs — a signal, a copy started, a copy's two waits, the barrier
wait — at an arbitrary `k`, so that the kernel's seven of each are seven uses of it.
-/
module

public import proofs.«01_k».proof.Proof.Schedule

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Owing `O`, whatever the device has waited on. -/
def owing (c : Dev nD) (O : CellTallies nD τ sig Unit) : sProp 𝕄 := iprop(∃ W, owes (c : Thread nD τ) O W)

section Steps

variable (K : Dev nD × CI → ℕ) (c : Dev nD)
variable {α : Type} {Q : α → sProp (MT nD τ sig Unit (Elt F) ℕ UU ℕ)} {kt : PUnit → Prog (TpuEff nD τ sig (Elt F) Λ₀ .tc) α}

/-- The `k`-th signal: to the device `k + 1` places further, handing it the slot its copy will fill. -/
theorem step_signal (k : Fin 7) {n : Dev nD} (hn : n = peer c k) {a : ℕ} (ha : a = 1) :
    iprop(records m ρ K ∗ owing c (owB c (7 - k.val)) ∗ dutyTok EX (barCell (peer c k)) 0 k ∗ ∃ f, slotPts c (rev k) f)
      ⊢ iprop((owing c (owB c (6 - k.val)) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (Dev.tc n : Thread nD τ) barS a) kt) Q) := by
  subst hn ha
  unfold owing
  iintro ⟨#HR, ⟨%W, HO⟩, Htok, Hslot⟩ Hk
  iapply (Rounds.wp_signal 𝒱₀ EX (Rd m ρ) (c : Thread nD τ) none (dst := (peer c k : Thread nD τ)) (κ := K (peer c k, iB)) (d := k)
      (by rw [duties_bar]; exact Finset.mem_univ _) (amount_bar m ρ (peer c k) k) () (owB c (6 - k.val)) (owB_step c k)) $$ [HO Htok Hslot]
  · isplitr; · iapply (inv_at m ρ K (peer c k, iB)); iexact HR
    isplitl [HO]; · iexact HO
    isplitl [Htok]; · iexact Htok
    isplitl [Hslot]
    · rw [payload_bar]; unfold barPay; rw [back_peer]; iexact Hslot
    · iapply (reached_at m ρ K (peer c k, iB)); iexact HR
  iintro HO
  iapply Hk
  iexists W; iexact HO

/-- The wait for all seven peers: their slots. -/
theorem step_bar {a : ℕ} (ha : a = 7) :
    iprop(records m ρ K ∗ owing c (owR c 7) ∗ credB c ∗ atB c ∗ levAts L lv)
      ⊢ iprop(((owing c (owR c 7) ∗ semVal (barCell c) 0 ∗ bigSep Finset.univ fun d : Fin 7 => barPay (F := F) c d)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS a) kt) Q) := by
  subst ha
  unfold owing credB atB
  iintro ⟨#HR, ⟨%W, HO⟩, Hc, Hat, #Hlev⟩ Hk
  iapply (Rounds.wp_wait_rest_token 𝒱₀ EX (Rd m ρ) (c : Thread nD τ) none (κ := K (c, iB))
      (wpE_semWait_eq 𝒱₀ (c : Thread nD τ) none Set.univ) (Set.mem_univ _) () (O := owR c 7) (W := W) (R := 0) (m := 0) (T := ∅)
      (by rw [expect_bar])) $$ [Hc HO Hat]
  · isplitr; · iapply (inv_at m ρ K (c, iB)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close EX (Rd m ρ) (Set.mem_univ (K (c, iB))) (fun h => h) (R := 0 + 1) (duties_later m ρ (barCell c))) $$ [Hat] with Hz
  · isplitr; · iapply (inv_at m ρ K (c, iB)); iexact HR
    iexact Hat
  iapply Hk
  isplitl [HO]; · iexists _; iexact HO
  isplitl [Hz] <;> iassumption

omit [FloatOps F] in
/-- Slot `k` of `d` after contents `p k` have been copied into it. -/
theorem land_send (d : Dev nD) (k : Fin 7) (fn : RC F) (ps : Fin 7 → PC F) :
    ((rM k).view.loc (d : Thread nD τ) ↦[(rM k).view.set]{fullShare} ((rM k).view.write (Elt F) fn (pM.view.read (Elt F) (ps k)) Finset.univ) : sProp 𝕄)
      ⊢ slotPts d k (mk7 ps) := by
  unfold slotPts
  refine Entails.of_eq (pointsTo_congr fun ix hix => ?_)
  exact landed_on k fn ps ix hix

/-- The send rule at the exchange's cells. -/
theorem send_at (k : Fin 7) {hsc : (rM k : Memref sig (Dev.tc (peer c k) : Thread nD τ).2.kind .vmem S2x1024 .f32).view.ref.isScScratch = false}
    {hsrc : pM.view.WordExact} {hdst : (rM k).view.WordExact}
    {hsem : DmaTarget.Typed .vmem (.dma (recvS k)) (.remote (Dev.tc (peer c k) : Thread nD τ) (rM k) (.dma (sendS k)) hsc)} (fn : RC F) (W : Waits sig Unit) :
    iprop(cellInv EX (Rd m ρ) (K (c, iS k)) (sendCell c k) ∗ cellInv EX (Rd m ρ) (K (peer c k, iR k)) (recvCell (peer c k) k)
        ∗ pPts c k.castSucc (sent m ρ c) ∗ slotPts (peer c k) k fn ∗ owes (c : Thread nD τ) (owR c (7 - k.val)) W
        ∗ dutyTok EX (sendCell c k) 0 0 ∗ reached EX (sendCell c k) 0
        ∗ dutyTok EX (recvCell (peer c k) k) 0 0 ∗ reached EX (recvCell (peer c k) k) 0)
      ⊢ iprop(((cred (tallyAt (sendCell c k) () N) ∗ owes (c : Thread nD τ) (owR c (6 - k.val)) W)
            -∗ wp frame (wpE (defs₀ (F := F)) 𝒱₀ (c : Thread nD τ) none) Set.univ (kt ⟨⟩) Q)
          -∗ wp frame (wpE (defs₀ (F := F)) 𝒱₀ (c : Thread nD τ) none) Set.univ
            (.op (.enqueueDma pM (.remote (Dev.tc (peer c k) : Thread nD τ) (rM k) (.dma (sendS k)) hsc) (.dma (recvS k)) hsrc hdst hsem) kt) Q) := by
  unfold pPts slotPts
  have hN : (rM k).view.amount (.dma (recvS k) : SemLoc sig) = N := credit_r k
  have h₁ : (pM.view.loc (c : Thread nD τ) ↦[pM.view.set]{part k.castSucc} (sent m ρ c) : sProp 𝕄) ⊢ (Rd m ρ).payload (sendCell c k) 0 0 := by
    rw [payload_send]; exact BI.Entails.refl _
  have h₂ : ((rM k).view.loc (peer c k : Thread nD τ) ↦[(rM k).view.set]{fullShare} ((rM k).view.write (Elt F) fn (pM.view.read (Elt F) (sent m ρ c)) Finset.univ) : sProp 𝕄)
      ⊢ (Rd m ρ).payload (recvCell (peer c k) k) 0 0 := by
    rw [payload_recv]; unfold recvPay
    rw [show sent m ρ c = got m ρ (peer c k) k from by unfold got; rw [back_peer]]
    exact land_send (peer c k) k fn (got m ρ (peer c k))
  have d₁ : (0 : Fin 7) ∈ (Rd m ρ).duties (sendCell c k) 0 := by rw [duties_send]; exact Finset.mem_singleton_self _
  have d₂ : (0 : Fin 7) ∈ (Rd m ρ).duties (recvCell (peer c k) k) 0 := by rw [duties_recv]; exact Finset.mem_singleton_self _
  exact Rounds.wp_send_pointsTo (c' := (Dev.tc (peer c k) : Thread nD τ)) (src := pM) (dst := rM k) (sS := .dma (sendS k)) (sem := .dma (recvS k)) (hsc := hsc) (hsrc := hsrc) (hdst := hdst) (hsem := hsem)
    (q := part k.castSucc) (fs := sent m ρ c)
    𝒱₀ EX (Rd m ρ) (c : Thread nD τ) none (κ₁ := K (c, iS k)) (κ₂ := K (peer c k, iR k))
    (r₁ := 0) (r₂ := 0) (d₁ := 0) (d₂ := 0) (fd := fn) d₁ d₂
    () () N hN (amount_send m ρ c k 0) (amount_recv m ρ (peer c k) k 0) (owR c (6 - k.val)) (owR_step c k) (W := W) h₁ h₂

/-- The `k`-th copy, into slot `k` of the device `k + 1` places further. -/
theorem step_send (k : Fin 7) {n : Dev nD} (hn : n = peer c k)
    {oS : Fin 2 → ℕ} (hoS : oS = ![0, k.val]) {inS : ∀ a : Fin 2, oS a + S1x1.size a ≤ S1x7.size a}
    {oR : Fin 4 → ℕ} (hoR : oR = ![0, k.val, 0, 0]) {inR : ∀ a : Fin 4, oR a + S1x1x2x1024.size a ≤ S1x7x2x1024.size a}
    {oP : Fin 3 → ℕ} (hoP : oP = ![0, 0, 0]) {inP : ∀ a : Fin 3, oP a + S1x2x1024.size a ≤ S1x2x1024.size a}
    {hsc} {hsrc} {hdst} {hsem} (fn : RC F) :
    iprop(records m ρ K ∗ pPts c k.castSucc (sent m ρ c) ∗ slotPts (peer c k) k fn ∗ owing c (owR c (7 - k.val))
        ∗ dutyTok EX (sendCell c k) 0 0 ∗ dutyTok EX (recvCell (peer c k) k) 0 0)
      ⊢ iprop(((cred (tallyAt (sendCell c k) () N) ∗ owing c (owR c (6 - k.val)))
            -∗ wp frame (wpE (defs₀ (F := F)) 𝒱₀ (c : Thread nD τ) none) Set.univ (kt ⟨⟩) Q)
          -∗ wp frame (wpE (defs₀ (F := F)) 𝒱₀ (c : Thread nD τ) none) Set.univ
            (.op (.enqueueDma (((Memref.whole cc0_scratch0).slice (Rect.unit (s := S1x2x1024) oP S1x2x1024.size inP) (fun _ => rfl)).squeeze S2x1024 squeezes_S1x2x1024_S2x1024)
              (.remote (Dev.tc n : Thread nD τ) (((Memref.whole cc0_scratch1).slice (Rect.unit (s := S1x7x2x1024) oR S1x1x2x1024.size inR) (fun _ => rfl)).squeeze S2x1024 squeezes_S1x1x2x1024_S2x1024)
                (.dma ((cc0_scratch2.slice (Rect.unit (s := S1x7) oS S1x1.size inS)).squeeze S_ squeezes_S1x1_S_).sem) hsc)
              (.dma ((cc0_scratch3.slice (Rect.unit (s := S1x7) oS S1x1.size inS)).squeeze S_ squeezes_S1x1_S_).sem) hsrc hdst hsem) kt) Q) := by
  subst hn hoS hoR hoP
  unfold owing
  iintro ⟨#HR, Hsrc, Hdst, ⟨%W, HO⟩, HtS, HtR⟩ Hk
  iapply (send_at m ρ K c (hsc := hsc) (hsrc := hsrc) (hdst := hdst) (hsem := hsem) k fn W) $$ [Hsrc Hdst HO HtS HtR]
  · isplitr; · iapply (inv_at m ρ K (c, iS k)); iexact HR
    isplitr; · iapply (inv_at m ρ K (peer c k, iR k)); iexact HR
    isplitl [Hsrc]; · iexact Hsrc
    isplitl [Hdst]; · iexact Hdst
    isplitl [HO]; · iexact HO
    isplitl [HtS]; · iexact HtS
    isplitr; · iapply (reached_at m ρ K (c, iS k)); iexact HR
    isplitl [HtR]; · iexact HtR
    iapply (reached_at m ρ K (peer c k, iR k)); iexact HR
  iintro ⟨Hc, HO⟩
  iapply Hk
  isplitl [Hc]; · iexact Hc
  iexists W; iexact HO

/-- The wait for the `k`-th copy to have left: the share of `pbuf` it read comes back. -/
theorem step_waitS (k : Fin 7)
    {oS : Fin 2 → ℕ} (hoS : oS = ![0, k.val]) {inS : ∀ a : Fin 2, oS a + S1x1.size a ≤ S1x7.size a}
    {oR : Fin 4 → ℕ} {inR : ∀ a : Fin 4, oR a + S1x1x2x1024.size a ≤ S1x7x2x1024.size a}
    {oP : Fin 3 → ℕ} (hoP : oP = ![0, 0, 0]) {inP : ∀ a : Fin 3, oP a + S1x2x1024.size a ≤ S1x2x1024.size a}
    {hsrc} {hdst} :
    iprop(records m ρ K ∗ cred (tallyAt (sendCell c k) () N) ∗ owing c 0 ∗ atPos EX (sendCell c k) 0 ∅ 0)
      ⊢ iprop(((owing c 0 ∗ semVal (sendCell c k) 0 ∗ pPts c k.castSucc (sent m ρ c))
            -∗ wp frame (wpE (defs₀ (F := F)) 𝒱₀ (c : Thread nD τ) none) Set.univ (kt ⟨⟩) Q)
          -∗ wp frame (wpE (defs₀ (F := F)) 𝒱₀ (c : Thread nD τ) none) Set.univ
            (.op (.waitDma2 ((cc0_scratch2.slice (Rect.unit (s := S1x7) oS S1x1.size inS)).squeeze S_ squeezes_S1x1_S_).sem
              (((Memref.whole cc0_scratch1).slice (Rect.unit (s := S1x7x2x1024) oR S1x1x2x1024.size inR) (fun _ => rfl)).squeeze S2x1024 squeezes_S1x1x2x1024_S2x1024)
              (((Memref.whole cc0_scratch0).slice (Rect.unit (s := S1x2x1024) oP S1x2x1024.size inP) (fun _ => rfl)).squeeze S2x1024 squeezes_S1x2x1024_S2x1024)
              hsrc hdst) kt) Q) := by
  subst hoS hoP
  unfold owing
  iintro ⟨#HR, Hc, ⟨%W, HO⟩, Hat⟩ Hk
  iapply (Rounds.wp_wait_rest_token 𝒱₀ EX (Rd m ρ) (c : Thread nD τ) none (κ := K (c, iS k)) (sm := .dma (sendS k)) (k' := N)
      (fun K' => (wpE_waitDma2_eq (sem := sendS k) (dst := pM) (hsrc := hsrc) (hdst := hdst) 𝒱₀ (c : Thread nD τ) none Set.univ K').trans (by rw [credit_p])) (Set.mem_univ _) () (O := 0) (W := W) (R := 0) (m := 0) (T := ∅)
      (by rw [Nat.zero_add, expect_send])) $$ [Hc HO Hat]
  · isplitr; · iapply (inv_at m ρ K (c, iS k)); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c k)) $$ Hpay
  imod (Rounds.cell_close EX (Rd m ρ) (Set.mem_univ (K (c, iS k))) (fun h => h) (R := 0 + 1) (duties_later m ρ (sendCell c k))) $$ [Hat] with Hz
  · isplitr; · iapply (inv_at m ρ K (c, iS k)); iexact HR
    iexact Hat
  iapply Hk
  isplitl [HO]; · iexists _; iexact HO
  isplitl [Hz]; · iexact Hz
  unfold sendPay; iexact Hp

/-- The wait for the copy into the device's own slot `k`: the slot comes back, filled. -/
theorem step_waitR (k : Fin 7)
    {oS : Fin 2 → ℕ} (hoS : oS = ![0, k.val]) {inS : ∀ a : Fin 2, oS a + S1x1.size a ≤ S1x7.size a}
    {oR : Fin 4 → ℕ} (hoR : oR = ![0, k.val, 0, 0]) {inR : ∀ a : Fin 4, oR a + S1x1x2x1024.size a ≤ S1x7x2x1024.size a}
    {oP : Fin 3 → ℕ} {inP : ∀ a : Fin 3, oP a + S1x2x1024.size a ≤ S1x2x1024.size a}
    {hsrc} {hdst} :
    iprop(records m ρ K ∗ cred (tallyAt (recvCell c k) () N) ∗ owing c 0 ∗ atPos EX (recvCell c k) 0 ∅ 0)
      ⊢ iprop(((owing c 0 ∗ semVal (recvCell c k) 0 ∗ slotPts c k (mk7 (got m ρ c)))
            -∗ wp frame (wpE (defs₀ (F := F)) 𝒱₀ (c : Thread nD τ) none) Set.univ (kt ⟨⟩) Q)
          -∗ wp frame (wpE (defs₀ (F := F)) 𝒱₀ (c : Thread nD τ) none) Set.univ
            (.op (.waitDma2 ((cc0_scratch3.slice (Rect.unit (s := S1x7) oS S1x1.size inS)).squeeze S_ squeezes_S1x1_S_).sem
              (((Memref.whole cc0_scratch0).slice (Rect.unit (s := S1x2x1024) oP S1x2x1024.size inP) (fun _ => rfl)).squeeze S2x1024 squeezes_S1x2x1024_S2x1024)
              (((Memref.whole cc0_scratch1).slice (Rect.unit (s := S1x7x2x1024) oR S1x1x2x1024.size inR) (fun _ => rfl)).squeeze S2x1024 squeezes_S1x1x2x1024_S2x1024)
              hsrc hdst) kt) Q) := by
  subst hoS hoR
  unfold owing
  iintro ⟨#HR, Hc, ⟨%W, HO⟩, Hat⟩ Hk
  iapply (Rounds.wp_wait_rest_token 𝒱₀ EX (Rd m ρ) (c : Thread nD τ) none (κ := K (c, iR k)) (sm := .dma (recvS k)) (k' := N)
      (fun K' => (wpE_waitDma2_eq (sem := recvS k) (dst := rM k) (hsrc := hsrc) (hdst := hdst) 𝒱₀ (c : Thread nD τ) none Set.univ K').trans (by rw [credit_r])) (Set.mem_univ _) () (O := 0) (W := W) (R := 0) (m := 0) (T := ∅)
      (by rw [Nat.zero_add, expect_recv])) $$ [Hc HO Hat]
  · isplitr; · iapply (inv_at m ρ K (c, iR k)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c k)) $$ Hpay
  imod (Rounds.cell_close EX (Rd m ρ) (Set.mem_univ (K (c, iR k))) (fun h => h) (R := 0 + 1) (duties_later m ρ (recvCell c k))) $$ [Hat] with Hz
  · isplitr; · iapply (inv_at m ρ K (c, iR k)); iexact HR
    iexact Hat
  iapply Hk
  isplitl [HO]; · iexists _; iexact HO
  isplitl [Hz]; · iexact Hz
  unfold recvPay; iexact Hp

end Steps

end Cert.ArgMax

end
-- ==== Proof.Pieces.lean ====
/-
# Pieces of the exchange, cut and joined; the seven pairs of waits
-/
module

public import proofs.«01_k».proof.Proof.Steps

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chains of seven and eight -/

section Chains
variable {M : Type} [URA M]
theorem chain7 (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem chain8 (Φ : Fin (2 ^ 3) → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
end Chains

omit [FloatOps F] in
/-- A part of `pbuf` is that share of the whole buffer. -/
theorem pPts_whole (c : Dev nD) (i : Fin 8) (f : PC F) : (pPts c i f : sProp 𝕄) = (((c : Thread nD τ).loc cc0_scratch0) ↦{part i} f) := by
  unfold pPts; rw [pM_set]

omit [FloatOps F] in
/-- `pbuf` cut into its eight parts. -/
theorem scrP_parts (c : Dev nD) (f : PC F) : (scrP c f : sProp 𝕄)
    = iprop(pPts c 0 f ∗ pPts c 1 f ∗ pPts c 2 f ∗ pPts c 3 f ∗ pPts c 4 f ∗ pPts c 5 f ∗ pPts c 6 f ∗ pPts c 7 f) := by
  have h := ShareLeaves.pointsTo_leaves (ℓ := (c : Thread nD τ).loc cc0_scratch0) (Ix := Unit) (Name := ℕ) (U := UU) (Lvl := ℕ) Finset.univ f 3 fullShare
  rw [chain8] at h
  simp only [pPts_whole]
  exact h

omit [FloatOps F] in
/-- `rbuf` cut into its seven slots. -/
theorem scrR_slots (c : Dev nD) (f : RC F) : (scrR c f : sProp 𝕄)
    = iprop(slotPts c 0 f ∗ slotPts c 1 f ∗ slotPts c 2 f ∗ slotPts c 3 f ∗ slotPts c 4 f ∗ slotPts c 5 f ∗ slotPts c 6 f) := by
  have h := pointsTo_biUnion (ℓ := (c : Thread nD τ).loc cc0_scratch1) (q := fullShare) (f := f) (Ix := Unit) (Name := ℕ) (U := UU) (Lvl := ℕ)
    Finset.univ slotSet (fun k _ k' _ hk => slot_disjoint k k' hk)
  rw [slot_cover, chain7] at h
  exact h

omit [FloatOps F] in
/-- What the barrier hands over: slot `k` of the device `k + 1` places further, for every `k`. -/
theorem bar_slots (c : Dev nD) : (bigSep Finset.univ fun d : Fin 7 => barPay (F := F) c d : sProp 𝕄)
    = iprop((∃ f, slotPts (peer c 0) 0 f) ∗ (∃ f, slotPts (peer c 1) 1 f) ∗ (∃ f, slotPts (peer c 2) 2 f) ∗ (∃ f, slotPts (peer c 3) 3 f)
        ∗ (∃ f, slotPts (peer c 4) 4 f) ∗ (∃ f, slotPts (peer c 5) 5 f) ∗ (∃ f, slotPts (peer c 6) 6 f)) := by
  refine (bigSep_univ_equiv revEquiv _).trans ?_
  refine (bigSep_congr (Ψ := fun k : Fin 7 => iprop(∃ f, slotPts (F := F) (peer c k) k f)) fun k _ => ?_).trans (chain7 _)
  show barPay (F := F) c (rev k) = _
  unfold barPay
  rw [back_eq, rev_rev]

/-! ## The seven pairs of waits -/

/-- What a device waits with for its `k`-th copy to have left and for what its slot `k` receives, -/
def waitPre (c : Dev nD) (k : Fin 7) : sProp 𝕄 :=
  iprop(cred (tallyAt (sendCell c k) () N) ∗ cred (tallyAt (recvCell c k) () N) ∗ atPos EX (sendCell c k) 0 ∅ 0 ∗ atPos EX (recvCell c k) 0 ∅ 0)
/-- and what it has then. -/
def waitPost (c : Dev nD) (k : Fin 7) : sProp 𝕄 :=
  iprop(semVal (sendCell c k) 0 ∗ semVal (recvCell c k) 0 ∗ pPts c k.castSucc (sent m ρ c) ∗ slotPts c k (mk7 (got m ρ c)))

section Parts
variable (K : Dev nD × CI → ℕ) (c : Dev nD) {α : Type} {Q : α → sProp (MT nD τ sig Unit (Elt F) ℕ UU ℕ)}

section
variable {kt : PUnit → Prog (TpuEff nD τ sig (Elt F) Λ₀ .tc) α}
/-- The two waits of slot `k`. -/
theorem step_waits (k : Fin 7)
    {oS : Fin 2 → ℕ} (hoS : oS = ![0, k.val]) {inS inS' : ∀ a : Fin 2, oS a + S1x1.size a ≤ S1x7.size a}
    {oR : Fin 4 → ℕ} (hoR : oR = ![0, k.val, 0, 0]) {inR inR' : ∀ a : Fin 4, oR a + S1x1x2x1024.size a ≤ S1x7x2x1024.size a}
    {oP : Fin 3 → ℕ} (hoP : oP = ![0, 0, 0]) {inP inP' : ∀ a : Fin 3, oP a + S1x2x1024.size a ≤ S1x2x1024.size a}
    {hsrc} {hdst} {hsrc'} {hdst'} :
    iprop(records m ρ K ∗ waitPre c k ∗ owing c 0)
      ⊢ iprop(((owing c 0 ∗ waitPost m ρ c k)
            -∗ wp frame (wpE (defs₀ (F := F)) 𝒱₀ (c : Thread nD τ) none) Set.univ (kt ⟨⟩) Q)
          -∗ wp frame (wpE (defs₀ (F := F)) 𝒱₀ (c : Thread nD τ) none) Set.univ
            (.op (.waitDma2 ((cc0_scratch2.slice (Rect.unit (s := S1x7) oS S1x1.size inS)).squeeze S_ squeezes_S1x1_S_).sem
              (((Memref.whole cc0_scratch1).slice (Rect.unit (s := S1x7x2x1024) oR S1x1x2x1024.size inR) (fun _ => rfl)).squeeze S2x1024 squeezes_S1x1x2x1024_S2x1024)
              (((Memref.whole cc0_scratch0).slice (Rect.unit (s := S1x2x1024) oP S1x2x1024.size inP) (fun _ => rfl)).squeeze S2x1024 squeezes_S1x2x1024_S2x1024)
              hsrc hdst) fun _ =>
            .op (.waitDma2 ((cc0_scratch3.slice (Rect.unit (s := S1x7) oS S1x1.size inS')).squeeze S_ squeezes_S1x1_S_).sem
              (((Memref.whole cc0_scratch0).slice (Rect.unit (s := S1x2x1024) oP S1x2x1024.size inP') (fun _ => rfl)).squeeze S2x1024 squeezes_S1x2x1024_S2x1024)
              (((Memref.whole cc0_scratch1).slice (Rect.unit (s := S1x7x2x1024) oR S1x1x2x1024.size inR') (fun _ => rfl)).squeeze S2x1024 squeezes_S1x1x2x1024_S2x1024)
              hsrc' hdst') kt) Q) := by
  unfold waitPre waitPost
  iintro ⟨#HR, ⟨HcS, HcR, HaS, HaR⟩, HO⟩ Hk
  iapply (step_waitS m ρ K c k hoS hoP) $$ [HcS HaS HO]
  · isplitr; · iexact HR
    isplitl [HcS]; · iexact HcS
    isplitl [HO]; · iexact HO
    iexact HaS
  iintro ⟨HO, HzS, Hp⟩
  iapply (step_waitR m ρ K c k hoS hoR) $$ [HcR HaR HO]
  · isplitr; · iexact HR
    isplitl [HcR]; · iexact HcR
    isplitl [HO]; · iexact HO
    iexact HaR
  iintro ⟨HO, HzR, Hs⟩
  iapply Hk
  isplitl [HO]; · iexact HO
  isplitl [HzS]; · iexact HzS
  isplitl [HzR]; · iexact HzR
  isplitl [Hp] <;> iassumption
end

variable (i : grid0.Coords) (arg2 : Memref sig .tc .vmem S2048x1024 .bf16) (harg2 : arg2.IsWhole) (arg3 : Memref sig .tc .vmem S2x1024 .f32) (harg3 : arg3.IsWhole)

/-- The waits of slot 0. -/
theorem wp_part7 (v2 : BitVec 32) {kt : (BitVec 32) → Prog (TpuEff nD τ sig (Elt F) Λ₀ .tc) α} :
    iprop(records m ρ K ∗ waitPre c 0 ∗ owing c 0)
      ⊢ iprop(((owing c 0 ∗ waitPost m ρ c 0) -∗ ∀ r, wp frame (wpE (defs₀ (F := F)) 𝒱₀ (c : Thread nD τ) none) Set.univ (kt r) Q)
          -∗ wp frame (wpE (defs₀ (F := F)) 𝒱₀ (c : Thread nD τ) none) Set.univ
            (k0_part7 i arg2 harg2 arg3 harg3 (Memref.whole cc0_scratch0) (Memref.isWhole_whole _) (Memref.whole cc0_scratch1) (Memref.isWhole_whole _) cc0_scratch2 cc0_scratch3 v2 >>= kt) Q) := by
  simp only [k0_part7_eq_skeleton]; unfold k0_part7_skel
  simp only [Prog.lift, Prog.bind_op, Prog.bind_ret, Prog.pure_eq_ret]
  iintro H Hk
  iapply (step_waits m ρ K c 0 rfl rfl rfl) $$ H
  iintro H
  iapply Hk $$ H

/-- The waits of slot 1. -/
theorem wp_part8 (v2 : BitVec 32) (a1 : BitVec 32) {kt : (BitVec 32) → Prog (TpuEff nD τ sig (Elt F) Λ₀ .tc) α} :
    iprop(records m ρ K ∗ waitPre c 1 ∗ owing c 0)
      ⊢ iprop(((owing c 0 ∗ waitPost m ρ c 1) -∗ ∀ r, wp frame (wpE (defs₀ (F := F)) 𝒱₀ (c : Thread nD τ) none) Set.univ (kt r) Q)
          -∗ wp frame (wpE (defs₀ (F := F)) 𝒱₀ (c : Thread nD τ) none) Set.univ
            (k0_part8 i arg2 harg2 arg3 harg3 (Memref.whole cc0_scratch0) (Memref.isWhole_whole _) (Memref.whole cc0_scratch1) (Memref.isWhole_whole _) cc0_scratch2 cc0_scratch3 v2 a1 >>= kt) Q) := by
  simp only [k0_part8_eq_skeleton]; unfold k0_part8_skel
  simp only [Prog.lift, Prog.bind_op, Prog.bind_ret, Prog.pure_eq_ret]
  iintro H Hk
  iapply (step_waits m ρ K c 1 rfl rfl rfl) $$ H
  iintro H
  iapply Hk $$ H

/-- The waits of slot 2. -/
theorem wp_part9 (v2 : BitVec 32) (a1 : BitVec 32) {kt : (Σ' (_ : BitVec 32), BitVec 32) → Prog (TpuEff nD τ sig (Elt F) Λ₀ .tc) α} :
    iprop(records m ρ K ∗ waitPre c 2 ∗ owing c 0)
      ⊢ iprop(((owing c 0 ∗ waitPost m ρ c 2) -∗ ∀ r, wp frame (wpE (defs₀ (F := F)) 𝒱₀ (c : Thread nD τ) none) Set.univ (kt r) Q)
          -∗ wp frame (wpE (defs₀ (F := F)) 𝒱₀ (c : Thread nD τ) none) Set.univ
            (k0_part9 i arg2 harg2 arg3 harg3 (Memref.whole cc0_scratch0) (Memref.isWhole_whole _) (Memref.whole cc0_scratch1) (Memref.isWhole_whole _) cc0_scratch2 cc0_scratch3 v2 a1 >>= kt) Q) := by
  simp only [k0_part9_eq_skeleton]; unfold k0_part9_skel
  simp only [Prog.lift, Prog.bind_op, Prog.bind_ret, Prog.pure_eq_ret]
  iintro H Hk
  iapply (step_waits m ρ K c 2 rfl rfl rfl) $$ H
  iintro H
  iapply Hk $$ H

/-- The waits of slot 3. -/
theorem wp_part10 (v2 : BitVec 32) (a1 : BitVec 32) (a2 : BitVec 32) {kt : (Σ' (_ : BitVec 32) (_ : BitVec 32), BitVec 32) → Prog (TpuEff nD τ sig (Elt F) Λ₀ .tc) α} :
    iprop(records m ρ K ∗ waitPre c 3 ∗ owing c 0)
      ⊢ iprop(((owing c 0 ∗ waitPost m ρ c 3) -∗ ∀ r, wp frame (wpE (defs₀ (F := F)) 𝒱₀ (c : Thread nD τ) none) Set.univ (kt r) Q)
          -∗ wp frame (wpE (defs₀ (F := F)) 𝒱₀ (c : Thread nD τ) none) Set.univ
            (k0_part10 i arg2 harg2 arg3 harg3 (Memref.whole cc0_scratch0) (Memref.isWhole_whole _) (Memref.whole cc0_scratch1) (Memref.isWhole_whole _) cc0_scratch2 cc0_scratch3 v2 a1 a2 >>= kt) Q) := by
  simp only [k0_part10_eq_skeleton]; unfold k0_part10_skel
  simp only [Prog.lift, Prog.bind_op, Prog.bind_ret, Prog.pure_eq_ret]
  iintro H Hk
  iapply (step_waits m ρ K c 3 rfl rfl rfl) $$ H
  iintro H
  iapply Hk $$ H

/-- The waits of slot 4. -/
theorem wp_part11 (v2 : BitVec 32) (a1 : BitVec 32) (a2 : BitVec 32) (a3 : BitVec 32) {kt : (Σ' (_ : BitVec 32) (_ : BitVec 32), BitVec 1) → Prog (TpuEff nD τ sig (Elt F) Λ₀ .tc) α} :
    iprop(records m ρ K ∗ waitPre c 4 ∗ owing c 0)
      ⊢ iprop(((owing c 0 ∗ waitPost m ρ c 4) -∗ ∀ r, wp frame (wpE (defs₀ (F := F)) 𝒱₀ (c : Thread nD τ) none) Set.univ (kt r) Q)
          -∗ wp frame (wpE (defs₀ (F := F)) 𝒱₀ (c : Thread nD τ) none) Set.univ
            (k0_part11 i arg2 harg2 arg3 harg3 (Memref.whole cc0_scratch0) (Memref.isWhole_whole _) (Memref.whole cc0_scratch1) (Memref.isWhole_whole _) cc0_scratch2 cc0_scratch3 v2 a1 a2 a3 >>= kt) Q) := by
  simp only [k0_part11_eq_skeleton]; unfold k0_part11_skel
  simp only [Prog.lift, Prog.bind_op, Prog.bind_ret, Prog.pure_eq_ret]
  iintro H Hk
  iapply (step_waits m ρ K c 4 rfl rfl rfl) $$ H
  iintro H
  iapply Hk $$ H

/-- The waits of slot 5. -/
theorem wp_part12 (v2 : BitVec 32) (a1 : BitVec 32) (a2 : BitVec 32) (a3 : BitVec 1) {kt : (Σ' (_ : BitVec 32) (_ : BitVec 32) (_ : BitVec 1), BitVec 32) → Prog (TpuEff nD τ sig (Elt F) Λ₀ .tc) α} :
    iprop(records m ρ K ∗ waitPre c 5 ∗ owing c 0)
      ⊢ iprop(((owing c 0 ∗ waitPost m ρ c 5) -∗ ∀ r, wp frame (wpE (defs₀ (F := F)) 𝒱₀ (c : Thread nD τ) none) Set.univ (kt r) Q)
          -∗ wp frame (wpE (defs₀ (F := F)) 𝒱₀ (c : Thread nD τ) none) Set.univ
            (k0_part12 i arg2 harg2 arg3 harg3 (Memref.whole cc0_scratch0) (Memref.isWhole_whole _) (Memref.whole cc0_scratch1) (Memref.isWhole_whole _) cc0_scratch2 cc0_scratch3 v2 a1 a2 a3 >>= kt) Q) := by
  simp only [k0_part12_eq_skeleton]; unfold k0_part12_skel
  simp only [Prog.lift, Prog.bind_op, Prog.bind_ret, Prog.pure_eq_ret]
  iintro H Hk
  iapply (step_waits m ρ K c 5 rfl rfl rfl) $$ H
  iintro H
  iapply Hk $$ H

end Parts

end Cert.ArgMax

end
-- ==== Proof.Points.lean ====
/-
# The first three points: the blocks taken in, the signals sent
-/
module

public import proofs.«01_k».proof.Proof.Pieces

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which branches each point takes -/

theorem c1_0 : k0_cond1 (grid0.coords t0_0) = 1#1 := by decide +kernel
theorem c2_0 : ¬ k0_cond2 (grid0.coords t0_0) = 1#1 := by decide +kernel
theorem c3_0 : ¬ k0_cond3 (grid0.coords t0_0) = 1#1 := by decide +kernel
theorem c5_0 : ¬ k0_cond5 (grid0.coords t0_0) = 1#1 := by decide +kernel
theorem c6_0 : ¬ k0_cond6 (grid0.coords t0_0) = 1#1 := by decide +kernel
theorem c4_0 : ¬ Scalar.cmpi .ne (Scalar.extui (Scalar.andi (Scalar.cmpi .eq (BitVec.ofNat 32 (grid0.coords t0_0 0).val) 0#32) (Scalar.cmpi .eq (BitVec.ofNat 32 (grid0.coords t0_0 1).val) 3#32)) : BitVec 32) 0#32 = 1#1 := by decide +kernel
theorem c1_1 : ¬ k0_cond1 (grid0.coords t0_1) = 1#1 := by decide +kernel
theorem c2_1 : k0_cond2 (grid0.coords t0_1) = 1#1 := by decide +kernel
theorem c3_1 : ¬ k0_cond3 (grid0.coords t0_1) = 1#1 := by decide +kernel
theorem c5_1 : ¬ k0_cond5 (grid0.coords t0_1) = 1#1 := by decide +kernel
theorem c6_1 : ¬ k0_cond6 (grid0.coords t0_1) = 1#1 := by decide +kernel
theorem c4_1 : ¬ Scalar.cmpi .ne (Scalar.extui (Scalar.andi (Scalar.cmpi .eq (BitVec.ofNat 32 (grid0.coords t0_1 0).val) 0#32) (Scalar.cmpi .eq (BitVec.ofNat 32 (grid0.coords t0_1 1).val) 3#32)) : BitVec 32) 0#32 = 1#1 := by decide +kernel
theorem c1_2 : ¬ k0_cond1 (grid0.coords t0_2) = 1#1 := by decide +kernel
theorem c2_2 : k0_cond2 (grid0.coords t0_2) = 1#1 := by decide +kernel
theorem c3_2 : k0_cond3 (grid0.coords t0_2) = 1#1 := by decide +kernel
theorem c5_2 : ¬ k0_cond5 (grid0.coords t0_2) = 1#1 := by decide +kernel
theorem c6_2 : ¬ k0_cond6 (grid0.coords t0_2) = 1#1 := by decide +kernel
theorem c4_2 : ¬ Scalar.cmpi .ne (Scalar.extui (Scalar.andi (Scalar.cmpi .eq (BitVec.ofNat 32 (grid0.coords t0_2 0).val) 0#32) (Scalar.cmpi .eq (BitVec.ofNat 32 (grid0.coords t0_2 1).val) 3#32)) : BitVec 32) 0#32 = 1#1 := by decide +kernel
theorem c1_3 : ¬ k0_cond1 (grid0.coords t0_3) = 1#1 := by decide +kernel
theorem c2_3 : k0_cond2 (grid0.coords t0_3) = 1#1 := by decide +kernel
theorem c3_3 : ¬ k0_cond3 (grid0.coords t0_3) = 1#1 := by decide +kernel
theorem c5_3 : k0_cond5 (grid0.coords t0_3) = 1#1 := by decide +kernel
theorem c6_3 : k0_cond6 (grid0.coords t0_3) = 1#1 := by decide +kernel
theorem c4_3 : Scalar.cmpi .ne (Scalar.extui (Scalar.andi (Scalar.cmpi .eq (BitVec.ofNat 32 (grid0.coords t0_3 0).val) 0#32) (Scalar.cmpi .eq (BitVec.ofNat 32 (grid0.coords t0_3 1).val) 3#32)) : BitVec 32) 0#32 = 1#1 := by decide +kernel

theorem off_eq0 (i : grid0.Coords) : (i 0).val = 0 := by
  have := (i 0).isLt
  exact Nat.lt_one_iff.mp this
theorem o1 (i : grid0.Coords) : k0_off1 i = ![0, 0, 0] := by rw [k0_off1_eq, off_eq0]
theorem o3 (i : grid0.Coords) : k0_off3 i = ![0, 0, 0] := by rw [k0_off3_eq, off_eq0]
theorem o2 (i : grid0.Coords) : k0_off2 i = ![0, 1, 0] := by rw [k0_off2_eq, off_eq0]
theorem o4 (i : grid0.Coords) : k0_off4 i = ![0, 1, 0] := by rw [k0_off4_eq, off_eq0]
theorem o7 (i : grid0.Coords) : k0_off7 i = ![0, 0, 0] := by rw [k0_off7_eq, off_eq0]
theorem o5 (i : grid0.Coords) : k0_off5 i = ![0, 0] := by rw [k0_off5_eq, off_eq0]
theorem o6 (i : grid0.Coords) : k0_off6 i = ![0, 0, 0, 0] := by rw [k0_off6_eq, off_eq0]
theorem o8 (i : grid0.Coords) : k0_off8 i = ![0, 1] := by rw [k0_off8_eq, off_eq0]
theorem o9 (i : grid0.Coords) : k0_off9 i = ![0, 1, 0, 0] := by rw [k0_off9_eq, off_eq0]
theorem o10 (i : grid0.Coords) : k0_off10 i = ![0, 2] := by rw [k0_off10_eq, off_eq0]
theorem o11 (i : grid0.Coords) : k0_off11 i = ![0, 2, 0, 0] := by rw [k0_off11_eq, off_eq0]
theorem o12 (i : grid0.Coords) : k0_off12 i = ![0, 3] := by rw [k0_off12_eq, off_eq0]
theorem o13 (i : grid0.Coords) : k0_off13 i = ![0, 3, 0, 0] := by rw [k0_off13_eq, off_eq0]
theorem o14 (i : grid0.Coords) : k0_off14 i = ![0, 4] := by rw [k0_off14_eq, off_eq0]
theorem o15 (i : grid0.Coords) : k0_off15 i = ![0, 4, 0, 0] := by rw [k0_off15_eq, off_eq0]
theorem o16 (i : grid0.Coords) : k0_off16 i = ![0, 5] := by rw [k0_off16_eq, off_eq0]
theorem o17 (i : grid0.Coords) : k0_off17 i = ![0, 5, 0, 0] := by rw [k0_off17_eq, off_eq0]
theorem o18 (i : grid0.Coords) : k0_off18 i = ![0, 6] := by rw [k0_off18_eq, off_eq0]
theorem o19 (i : grid0.Coords) : k0_off19 i = ![0, 6, 0, 0] := by rw [k0_off19_eq, off_eq0]

theorem hz2 : (![0, 0] : Fin 2 → ℕ) = fun _ => 0 := funext fun a => by fin_cases a <;> rfl

abbrev xpts0 (c : Dev nD) (x : (cc0_stg0_0 : Ref sig .tc).ty.Contents (Elt F)) : sProp 𝕄 := ((c : Thread nD τ).loc cc0_stg0_0) ↦{fullShare} x
abbrev xpts1 (c : Dev nD) (x : (cc0_stg0_1 : Ref sig .tc).ty.Contents (Elt F)) : sProp 𝕄 := ((c : Thread nD τ).loc cc0_stg0_1) ↦{fullShare} x
abbrev opts (c : Dev nD) (o : (cc0_stg1_0 : Ref sig .tc).ty.Contents (Elt F)) : sProp 𝕄 := ((c : Thread nD τ).loc cc0_stg1_0) ↦{fullShare} o

omit [FloatOps F] in
theorem read_x0 (f : (cc0_stg0_0 : Ref sig .tc).ty.Contents (Elt F)) (inb) :
    (Memref.whole cc0_stg0_0).view.readAt (Elt F) (Rect.unit (s := S2048x1024) ![0, 0] S2048x1024.size inb).toLoadRect f = f :=
  Memref.readAt_unit_zero (Elt F) cc0_stg0_0 hz2 _ f
omit [FloatOps F] in
theorem read_x1 (f : (cc0_stg0_1 : Ref sig .tc).ty.Contents (Elt F)) (inb) :
    (Memref.whole cc0_stg0_1).view.readAt (Elt F) (Rect.unit (s := S2048x1024) ![0, 0] S2048x1024.size inb).toLoadRect f = f :=
  Memref.readAt_unit_zero (Elt F) cc0_stg0_1 hz2 _ f

section Access
variable (c : Dev nD) {α : Type} {Q : α → sProp (MT nD τ sig Unit (Elt F) ℕ UU ℕ)} {kt : PUnit → Prog (TpuEff nD τ sig (Elt F) Λ₀ .tc) α}
/-- A store to a row of `pbuf`. -/
theorem step_storeP {o : Fin 3 → ℕ} {inb} {w : Vec F S1x1x1024 .f32} {hx hm} (f : PC F) :
    (scrP c f : sProp 𝕄)
      ⊢ iprop((scrP c ((prow o inb).write (Elt F) f w Finset.univ) -∗ wp frame (wpE (defs₀ (F := F)) 𝒱₀ (c : Thread nD τ) none) Set.univ (kt ⟨⟩) Q)
          -∗ wp frame (wpE (defs₀ (F := F)) 𝒱₀ (c : Thread nD τ) none) Set.univ
            (.op (.store pW (Rect.unit (s := S1x2x1024) o S1x1x1024.size inb) w Finset.univ hx hm) kt) Q) :=
  wp_store 𝒱₀ (c : Thread nD τ) none Set.univ (m := pW) (r := Rect.unit (s := S1x2x1024) o S1x1x1024.size inb) (Mk := Finset.univ) (S := Finset.univ) (f := f) (Finset.subset_univ _)
/-- A store to a row of the result. -/
theorem step_storeO {o : Fin 2 → ℕ} {inb} {w : Vec F S1x1024 .f32} {hx hm} (f : (cc0_stg1_0 : Ref sig .tc).ty.Contents (Elt F)) :
    (opts c f : sProp 𝕄)
      ⊢ iprop((opts c ((orow o inb).write (Elt F) f w Finset.univ) -∗ wp frame (wpE (defs₀ (F := F)) 𝒱₀ (c : Thread nD τ) none) Set.univ (kt ⟨⟩) Q)
          -∗ wp frame (wpE (defs₀ (F := F)) 𝒱₀ (c : Thread nD τ) none) Set.univ
            (.op (.store oW (Rect.unit (s := S2x1024) o S1x1024.size inb) w Finset.univ hx hm) kt) Q) :=
  wp_store 𝒱₀ (c : Thread nD τ) none Set.univ (m := oW) (r := Rect.unit (s := S2x1024) o S1x1024.size inb) (Mk := Finset.univ) (S := Finset.univ) (f := f) (Finset.subset_univ _)
end Access

set_option maxHeartbeats 800000 in
/-- The first point: the block's own pair into `pbuf`. -/
theorem body0 (c : Dev nD) (x : Vec F S2048x1024 .bf16) (Kt : PUnit → sProp 𝕄) :
    iprop((∃ f, scrP c f) ∗ xpts0 c x)
      ⊢ iprop(((scrP c (pbuf (first c t0_0 x)) ∗ xpts0 c x) -∗ Kt ⟨⟩)
          -∗ wp frame (wpE (defs₀ (F := F)) 𝒱₀ (c : Thread nD τ) none) Set.univ
            (cc0_body (grid0.coords t0_0) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) Kt) := by
  simp only [cc0_body_eq_skeleton]; unfold cc0_body_skel
  simp only [k0_part16_eq_skeleton]; unfold k0_part16_skel
  simp only [dif_pos c1_0, dif_neg c2_0, dif_neg c3_0, dif_neg c4_0, dif_neg c5_0, dif_neg c6_0, Prog.lift, Prog.bind_op, Prog.bind_ret, Prog.pure_eq_ret, wp_deviceId]
  iintro ⟨⟨%f, Hp⟩, Hx⟩ Hk
  iapply (wp_load 𝒱₀ (c : Thread nD τ) none Set.univ (m := Memref.whole cc0_stg0_0) (Finset.subset_univ _)) $$ Hx; iintro Hx
  rw [read_x0]
  iapply (wp_load 𝒱₀ (c : Thread nD τ) none Set.univ (m := pW) (Finset.subset_univ _)) $$ Hp; iintro Hp
  iapply (step_storeP c _) $$ Hp; iintro Hp
  iapply (wp_load 𝒱₀ (c : Thread nD τ) none Set.univ (m := pW) (Finset.subset_univ _)) $$ Hp; iintro Hp
  iapply (step_storeP c _) $$ Hp; iintro Hp
  rw [wp_ret]; imodintro
  iapply Hk
  isplitl [Hp]
  · ihave Hp' := (Entails.of_eq (congrArg (fun g : PC F => (scrP c g : sProp 𝕄)) (write_rows (o1 _) (o2 _) _ _ f _ _))) $$ Hp
    iexact Hp'
  iexact Hx

/-- The contents after the two stores of a later point. -/
theorem next_stored (c : Dev nD) (t : Fin cfg0.N) (x : Vec F S2048x1024 .bf16) (p : Pr F) {inb0 inb1 inb0' inb1'} :
    (((c : Thread nD τ).loc cc0_scratch0) ↦{fullShare} ((prow (k0_off4 (grid0.coords t)) inb1).write (Elt F)
        ((prow (k0_off3 (grid0.coords t)) inb0).write (Elt F) (pbuf p)
          (k0_pay44 x (pW.view.readAt (Elt F) (Rect.unit (s := S1x2x1024) (k0_off3 (grid0.coords t)) S1x1x1024.size inb0').toLoadRect (pbuf p))
            (pW.view.readAt (Elt F) (Rect.unit (s := S1x2x1024) (k0_off3 (grid0.coords t)) S1x1x1024.size inb0').toLoadRect (pbuf p))) Finset.univ)
        (k0_pay45 (grid0.coords t) c x (pW.view.readAt (Elt F) (Rect.unit (s := S1x2x1024) (k0_off3 (grid0.coords t)) S1x1x1024.size inb0').toLoadRect (pbuf p))
          (pW.view.readAt (Elt F) (Rect.unit (s := S1x2x1024) (k0_off4 (grid0.coords t)) S1x1x1024.size inb1').toLoadRect
            ((prow (k0_off3 (grid0.coords t)) inb0).write (Elt F) (pbuf p)
              (k0_pay44 x (pW.view.readAt (Elt F) (Rect.unit (s := S1x2x1024) (k0_off3 (grid0.coords t)) S1x1x1024.size inb0').toLoadRect (pbuf p))
                (pW.view.readAt (Elt F) (Rect.unit (s := S1x2x1024) (k0_off3 (grid0.coords t)) S1x1x1024.size inb0').toLoadRect (pbuf p))) Finset.univ))) Finset.univ) : sProp 𝕄)
      = scrP c (pbuf (next c t x p)) := by
  refine congrArg (fun g : PC F => (scrP c g : sProp 𝕄)) ?_
  unfold pbuf next
  refine (write_rows (o3 _) (o4 _) _ _ _ _ _).trans ?_
  rw [read_row0 (o3 _), read_row1_write (o3 _) (o4 _)]

set_option maxHeartbeats 800000 in
/-- The second point: one more block taken in. -/
theorem body1 (c : Dev nD) (x : Vec F S2048x1024 .bf16) (p : Pr F) (Kt : PUnit → sProp 𝕄) :
    iprop(scrP c (pbuf p) ∗ xpts1 c x)
      ⊢ iprop(((scrP c (pbuf (next c t0_1 x p)) ∗ xpts1 c x) -∗ Kt ⟨⟩)
          -∗ wp frame (wpE (defs₀ (F := F)) 𝒱₀ (c : Thread nD τ) none) Set.univ
            (cc0_body (grid0.coords t0_1) (Memref.whole cc0_stg0_1) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) Kt) := by
  simp only [cc0_body_eq_skeleton]; unfold cc0_body_skel
  simp only [k0_part16_eq_skeleton]; unfold k0_part16_skel
  simp only [dif_neg c1_1, dif_pos c2_1, dif_neg c3_1, dif_neg c4_1, dif_neg c5_1, dif_neg c6_1, Prog.lift, Prog.bind_op, Prog.bind_ret, Prog.pure_eq_ret, wp_deviceId]
  iintro ⟨Hp, Hx⟩ Hk
  iapply (wp_load 𝒱₀ (c : Thread nD τ) none Set.univ (m := Memref.whole cc0_stg0_1) (Finset.subset_univ _)) $$ Hx; iintro Hx
  rw [read_x1]
  iapply (wp_load 𝒱₀ (c : Thread nD τ) none Set.univ (m := pW) (Finset.subset_univ _)) $$ Hp; iintro Hp
  iapply (wp_load 𝒱₀ (c : Thread nD τ) none Set.univ (m := pW) (Finset.subset_univ _)) $$ Hp; iintro Hp
  iapply (wp_load 𝒱₀ (c : Thread nD τ) none Set.univ (m := pW) (Finset.subset_univ _)) $$ Hp; iintro Hp
  iapply (step_storeP c _) $$ Hp; iintro Hp
  iapply (wp_load 𝒱₀ (c : Thread nD τ) none Set.univ (m := pW) (Finset.subset_univ _)) $$ Hp; iintro Hp
  iapply (wp_load 𝒱₀ (c : Thread nD τ) none Set.univ (m := pW) (Finset.subset_univ _)) $$ Hp; iintro Hp
  iapply (step_storeP c _) $$ Hp; iintro Hp
  ihave Hp' := (Entails.of_eq (next_stored c t0_1 x p)) $$ Hp
  rw [wp_ret]; imodintro
  iapply Hk
  isplitl [Hp'] <;> iassumption

set_option maxHeartbeats 1600000 in
/-- The third point: one more block, then the seven signals, each with the slot the peer's copy will fill. -/
theorem body2 (K : Dev nD × CI → ℕ) (c : Dev nD) (x : Vec F S2048x1024 .bf16) (p : Pr F) (Kt : PUnit → sProp 𝕄) :
    iprop(scrP c (pbuf p) ∗ xpts0 c x ∗ records m ρ K ∗ toksB c ∗ owing c (owB c 7) ∗ ∃ f, scrR c f)
      ⊢ iprop(((scrP c (pbuf (next c t0_2 x p)) ∗ xpts0 c x ∗ owing c (owR c 7)) -∗ Kt ⟨⟩)
          -∗ wp frame (wpE (defs₀ (F := F)) 𝒱₀ (c : Thread nD τ) none) Set.univ
            (cc0_body (grid0.coords t0_2) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) Kt) := by
  simp only [cc0_body_eq_skeleton]; unfold cc0_body_skel
  simp only [k0_part16_eq_skeleton]; unfold k0_part16_skel
  simp only [k0_part1_eq_skeleton, k0_part2_eq_skeleton]; unfold k0_part1_skel k0_part2_skel
  simp only [dif_neg c1_2, dif_pos c2_2, dif_pos c3_2, dif_neg c4_2, dif_neg c5_2, dif_neg c6_2, semSignalWord, Prog.lift, Prog.bind_op, Prog.bind_ret, Prog.pure_eq_ret, wp_deviceId]
  unfold toksB
  rw [chain7]
  iintro ⟨Hp, Hx, #HR, ⟨Ht0, Ht1, Ht2, Ht3, Ht4, Ht5, Ht6⟩, HO, ⟨%fr, Hr⟩⟩ Hk
  iapply (wp_load 𝒱₀ (c : Thread nD τ) none Set.univ (m := Memref.whole cc0_stg0_0) (Finset.subset_univ _)) $$ Hx; iintro Hx
  rw [read_x0]
  iapply (wp_load 𝒱₀ (c : Thread nD τ) none Set.univ (m := pW) (Finset.subset_univ _)) $$ Hp; iintro Hp
  iapply (wp_load 𝒱₀ (c : Thread nD τ) none Set.univ (m := pW) (Finset.subset_univ _)) $$ Hp; iintro Hp
  iapply (wp_load 𝒱₀ (c : Thread nD τ) none Set.univ (m := pW) (Finset.subset_univ _)) $$ Hp; iintro Hp
  iapply (step_storeP c _) $$ Hp; iintro Hp
  iapply (wp_load 𝒱₀ (c : Thread nD τ) none Set.univ (m := pW) (Finset.subset_univ _)) $$ Hp; iintro Hp
  iapply (wp_load 𝒱₀ (c : Thread nD τ) none Set.univ (m := pW) (Finset.subset_univ _)) $$ Hp; iintro Hp
  iapply (step_storeP c _) $$ Hp; iintro Hp
  ihave Hp' := (Entails.of_eq (next_stored c t0_2 x p)) $$ Hp
  ihave Hs := (Entails.of_eq (scrR_slots c fr)) $$ Hr
  icases Hs with ⟨Hs0, Hs1, Hs2, Hs3, Hs4, Hs5, Hs6⟩
  iapply (step_signal m ρ K c 0 (dev1_eq c _) (by decide)) $$ [HO Ht0 Hs6]
  · isplitr; · iexact HR
    isplitl [HO]; · iexact HO
    isplitl [Ht0]; · iexact Ht0
    iexists fr; iexact Hs6
  iintro HO
  iapply (step_signal m ρ K c 1 (dev2_eq c _) (by decide)) $$ [HO Ht1 Hs5]
  · isplitr; · iexact HR
    isplitl [HO]; · iexact HO
    isplitl [Ht1]; · iexact Ht1
    iexists fr; iexact Hs5
  iintro HO
  iapply (step_signal m ρ K c 2 (dev3_eq c _) (by decide)) $$ [HO Ht2 Hs4]
  · isplitr; · iexact HR
    isplitl [HO]; · iexact HO
    isplitl [Ht2]; · iexact Ht2
    iexists fr; iexact Hs4
  iintro HO
  iapply (step_signal m ρ K c 3 (dev4_eq c _) (by decide)) $$ [HO Ht3 Hs3]
  · isplitr; · iexact HR
    isplitl [HO]; · iexact HO
    isplitl [Ht3]; · iexact Ht3
    iexists fr; iexact Hs3
  iintro HO
  iapply (step_signal m ρ K c 4 (dev5_eq c _) (by decide)) $$ [HO Ht4 Hs2]
  · isplitr; · iexact HR
    isplitl [HO]; · iexact HO
    isplitl [Ht4]; · iexact Ht4
    iexists fr; iexact Hs2
  iintro HO
  iapply (step_signal m ρ K c 5 (dev6_eq c _) (by decide)) $$ [HO Ht5 Hs1]
  · isplitr; · iexact HR
    isplitl [HO]; · iexact HO
    isplitl [Ht5]; · iexact Ht5
    iexists fr; iexact Hs1
  iintro HO
  iapply (step_signal m ρ K c 6 (dev7_eq c _) (by decide)) $$ [HO Ht6 Hs0]
  · isplitr; · iexact HR
    isplitl [HO]; · iexact HO
    isplitl [Ht6]; · iexact Ht6
    iexists fr; iexact Hs0
  iintro HO
  rw [wp_ret]; imodintro
  iapply Hk
  isplitl [Hp']; · iexact Hp'
  isplitl [Hx]; · iexact Hx
  iexact HO

end Cert.ArgMax

end
-- ==== Proof.Parts.lean ====
/-
# The parts of the last point: the copies sent, the loads and merges
-/
module

public import proofs.«01_k».proof.Proof.Points

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device sends its `k`-th copy with: a part of `pbuf`, the peer's slot, and the two tokens. -/
def sendPre (c : Dev nD) (k : Fin 7) : sProp 𝕄 :=
  iprop(pPts c k.castSucc (sent m ρ c) ∗ (∃ f, slotPts (peer c k) k f) ∗ dutyTok EX (sendCell c k) 0 0 ∗ dutyTok EX (recvCell (peer c k) k) 0 0)

section Parts
variable (K : Dev nD × CI → ℕ) (c : Dev nD) {α : Type} {Q : α → sProp (MT nD τ sig Unit (Elt F) ℕ UU ℕ)}

section
variable {kt : PUnit → Prog (TpuEff nD τ sig (Elt F) Λ₀ .tc) α}
/-- The `k`-th copy from what it is sent with. -/
theorem step_copy (k : Fin 7) {n : Dev nD} (hn : n = peer c k)
    {oS : Fin 2 → ℕ} (hoS : oS = ![0, k.val]) {inS : ∀ a : Fin 2, oS a + S1x1.size a ≤ S1x7.size a}
    {oR : Fin 4 → ℕ} (hoR : oR = ![0, k.val, 0, 0]) {inR : ∀ a : Fin 4, oR a + S1x1x2x1024.size a ≤ S1x7x2x1024.size a}
    {oP : Fin 3 → ℕ} (hoP : oP = ![0, 0, 0]) {inP : ∀ a : Fin 3, oP a + S1x2x1024.size a ≤ S1x2x1024.size a}
    {hsc} {hsrc} {hdst} {hsem} :
    iprop(records m ρ K ∗ sendPre m ρ c k ∗ owing c (owR c (7 - k.val)))
      ⊢ iprop(((cred (tallyAt (sendCell c k) () N) ∗ owing c (owR c (6 - k.val)))
            -∗ wp frame (wpE (defs₀ (F := F)) 𝒱₀ (c : Thread nD τ) none) Set.univ (kt ⟨⟩) Q)
          -∗ wp frame (wpE (defs₀ (F := F)) 𝒱₀ (c : Thread nD τ) none) Set.univ
            (.op (.enqueueDma (((Memref.whole cc0_scratch0).slice (Rect.unit (s := S1x2x1024) oP S1x2x1024.size inP) (fun _ => rfl)).squeeze S2x1024 squeezes_S1x2x1024_S2x1024)
              (.remote (Dev.tc n : Thread nD τ) (((Memref.whole cc0_scratch1).slice (Rect.unit (s := S1x7x2x1024) oR S1x1x2x1024.size inR) (fun _ => rfl)).squeeze S2x1024 squeezes_S1x1x2x1024_S2x1024)
                (.dma ((cc0_scratch2.slice (Rect.unit (s := S1x7) oS S1x1.size inS)).squeeze S_ squeezes_S1x1_S_).sem) hsc)
              (.dma ((cc0_scratch3.slice (Rect.unit (s := S1x7) oS S1x1.size inS)).squeeze S_ squeezes_S1x1_S_).sem) hsrc hdst hsem) kt) Q) := by
  unfold sendPre
  iintro ⟨#HR, ⟨Hp, ⟨%fn, Hs⟩, HtS, HtR⟩, HO⟩ Hk
  iapply (step_send m ρ K c k hn hoS hoR hoP fn) $$ [Hp Hs HtS HtR HO]
  · isplitr; · iexact HR
    isplitl [Hp]; · iexact Hp
    isplitl [Hs]; · iexact Hs
    isplitl [HO]; · iexact HO
    isplitl [HtS] <;> iassumption
  iexact Hk
end

variable (i : grid0.Coords) (arg2 : Memref sig .tc .vmem S2048x1024 .bf16) (harg2 : arg2.IsWhole) (arg3 : Memref sig .tc .vmem S2x1024 .f32) (harg3 : arg3.IsWhole)

/-- The copies of slots 0. -/
theorem wp_part3 (v2 : BitVec 32) (h5 : k0_cond5 i = 1#1)  {kt : (Σ' (_ : BitVec 32), BitVec 32) → Prog (TpuEff nD τ sig (Elt F) Λ₀ .tc) α} :
    iprop(records m ρ K ∗ (sendPre m ρ c 0) ∗ owing c (owR c 7))
      ⊢ iprop((((cred (tallyAt (sendCell c 0) () N)) ∗ owing c (owR c 6)) -∗ ∀ r, wp frame (wpE (defs₀ (F := F)) 𝒱₀ (c : Thread nD τ) none) Set.univ (kt r) Q)
          -∗ wp frame (wpE (defs₀ (F := F)) 𝒱₀ (c : Thread nD τ) none) Set.univ
            (k0_part3 i arg2 harg2 arg3 harg3 (Memref.whole cc0_scratch0) (Memref.isWhole_whole _) (Memref.whole cc0_scratch1) (Memref.isWhole_whole _) cc0_scratch2 cc0_scratch3 c v2 h5  >>= kt) Q) := by
  simp only [k0_part3_eq_skeleton]; unfold k0_part3_skel
  simp only [Prog.lift, Prog.bind_op, Prog.bind_ret, Prog.pure_eq_ret]
  iintro ⟨#HR, Hs0, HO⟩ Hk
  iapply (step_copy m ρ K c 0 (dev8_eq c _) (o5 _) (o6 _) (o7 _)) $$ [Hs0 HO]
  · isplitr; · iexact HR
    isplitl [Hs0]; · iexact Hs0
    iexact HO
  iintro ⟨Hc0, HO⟩
  ispecialize Hk $$ [Hc0 HO]
  · isplitr [HO]
    · iexact Hc0
    iexact HO
  iapply Hk

/-- The copies of slots 1, 2. -/
theorem wp_part4 (v2 : BitVec 32) (h5 : k0_cond5 i = 1#1) (a1 : BitVec 32) (a2 : BitVec 32) {kt : (Σ' (_ : BitVec 32) (_ : BitVec 32) (_ : BitVec 1), BitVec 32) → Prog (TpuEff nD τ sig (Elt F) Λ₀ .tc) α} :
    iprop(records m ρ K ∗ (sendPre m ρ c 1 ∗ sendPre m ρ c 2) ∗ owing c (owR c 6))
      ⊢ iprop((((cred (tallyAt (sendCell c 1) () N) ∗ cred (tallyAt (sendCell c 2) () N)) ∗ owing c (owR c 4)) -∗ ∀ r, wp frame (wpE (defs₀ (F := F)) 𝒱₀ (c : Thread nD τ) none) Set.univ (kt r) Q)
          -∗ wp frame (wpE (defs₀ (F := F)) 𝒱₀ (c : Thread nD τ) none) Set.univ
            (k0_part4 i arg2 harg2 arg3 harg3 (Memref.whole cc0_scratch0) (Memref.isWhole_whole _) (Memref.whole cc0_scratch1) (Memref.isWhole_whole _) cc0_scratch2 cc0_scratch3 c v2 h5 a1 a2 >>= kt) Q) := by
  simp only [k0_part4_eq_skeleton]; unfold k0_part4_skel
  simp only [Prog.lift, Prog.bind_op, Prog.bind_ret, Prog.pure_eq_ret]
  iintro ⟨#HR, ⟨Hs1, Hs2⟩, HO⟩ Hk
  iapply (step_copy m ρ K c 1 (dev9_eq c _) (o8 _) (o9 _) (o7 _)) $$ [Hs1 HO]
  · isplitr; · iexact HR
    isplitl [Hs1]; · iexact Hs1
    iexact HO
  iintro ⟨Hc1, HO⟩
  iapply (step_copy m ρ K c 2 (dev10_eq c _) (o10 _) (o11 _) (o7 _)) $$ [Hs2 HO]
  · isplitr; · iexact HR
    isplitl [Hs2]; · iexact Hs2
    iexact HO
  iintro ⟨Hc2, HO⟩
  ispecialize Hk $$ [Hc1 Hc2 HO]
  · isplitr [HO]
    · isplitl [Hc1] <;> iassumption
    iexact HO
  iapply Hk

/-- The copies of slots 3. -/
theorem wp_part5 (v2 : BitVec 32) (h5 : k0_cond5 i = 1#1) (a1 : BitVec 32) (a2 : BitVec 32) (a3 : BitVec 1) (a4 : BitVec 32) {kt : (PUnit) → Prog (TpuEff nD τ sig (Elt F) Λ₀ .tc) α} :
    iprop(records m ρ K ∗ (sendPre m ρ c 3) ∗ owing c (owR c 4))
      ⊢ iprop((((cred (tallyAt (sendCell c 3) () N)) ∗ owing c (owR c 3)) -∗ ∀ r, wp frame (wpE (defs₀ (F := F)) 𝒱₀ (c : Thread nD τ) none) Set.univ (kt r) Q)
          -∗ wp frame (wpE (defs₀ (F := F)) 𝒱₀ (c : Thread nD τ) none) Set.univ
            (k0_part5 i arg2 harg2 arg3 harg3 (Memref.whole cc0_scratch0) (Memref.isWhole_whole _) (Memref.whole cc0_scratch1) (Memref.isWhole_whole _) cc0_scratch2 cc0_scratch3 c v2 h5 a1 a2 a3 a4 >>= kt) Q) := by
  simp only [k0_part5_eq_skeleton]; unfold k0_part5_skel
  simp only [Prog.lift, Prog.bind_op, Prog.bind_ret, Prog.pure_eq_ret]
  iintro ⟨#HR, Hs3, HO⟩ Hk
  iapply (step_copy m ρ K c 3 (dev11_eq c _) (o12 _) (o13 _) (o7 _)) $$ [Hs3 HO]
  · isplitr; · iexact HR
    isplitl [Hs3]; · iexact Hs3
    iexact HO
  iintro ⟨Hc3, HO⟩
  ispecialize Hk $$ [Hc3 HO]
  · isplitr [HO]
    · iexact Hc3
    iexact HO
  iapply Hk

/-- The copies of slots 4, 5. -/
theorem wp_part6 (v2 : BitVec 32) (h5 : k0_cond5 i = 1#1)  {kt : (Σ' (_ : BitVec 32) (_ : BitVec 32) (_ : BitVec 1), BitVec 1) → Prog (TpuEff nD τ sig (Elt F) Λ₀ .tc) α} :
    iprop(records m ρ K ∗ (sendPre m ρ c 4 ∗ sendPre m ρ c 5) ∗ owing c (owR c 3))
      ⊢ iprop((((cred (tallyAt (sendCell c 4) () N) ∗ cred (tallyAt (sendCell c 5) () N)) ∗ owing c (owR c 1)) -∗ ∀ r, wp frame (wpE (defs₀ (F := F)) 𝒱₀ (c : Thread nD τ) none) Set.univ (kt r) Q)
          -∗ wp frame (wpE (defs₀ (F := F)) 𝒱₀ (c : Thread nD τ) none) Set.univ
            (k0_part6 i arg2 harg2 arg3 harg3 (Memref.whole cc0_scratch0) (Memref.isWhole_whole _) (Memref.whole cc0_scratch1) (Memref.isWhole_whole _) cc0_scratch2 cc0_scratch3 c v2 h5  >>= kt) Q) := by
  simp only [k0_part6_eq_skeleton]; unfold k0_part6_skel
  simp only [Prog.lift, Prog.bind_op, Prog.bind_ret, Prog.pure_eq_ret]
  iintro ⟨#HR, ⟨Hs4, Hs5⟩, HO⟩ Hk
  iapply (step_copy m ρ K c 4 (dev12_eq c _) (o14 _) (o15 _) (o7 _)) $$ [Hs4 HO]
  · isplitr; · iexact HR
    isplitl [Hs4]; · iexact Hs4
    iexact HO
  iintro ⟨Hc4, HO⟩
  iapply (step_copy m ρ K c 5 (dev13_eq c _) (o16 _) (o17 _) (o7 _)) $$ [Hs5 HO]
  · isplitr; · iexact HR
    isplitl [Hs5]; · iexact Hs5
    iexact HO
  iintro ⟨Hc5, HO⟩
  ispecialize Hk $$ [Hc4 Hc5 HO]
  · isplitr [HO]
    · isplitl [Hc4] <;> iassumption
    iexact HO
  iapply Hk

/-- The waits of slot 6, and the device's own values loaded. -/
theorem wp_part13 (a1 a2 : BitVec 32) (a3 : BitVec 1) (a4 : BitVec 32) {kt : FVec F S1x1024 .f32 → Prog (TpuEff nD τ sig (Elt F) Λ₀ .tc) α} :
    iprop(records m ρ K ∗ waitPre c 6 ∗ owing c 0 ∗ pPts c 7 (sent m ρ c))
      ⊢ iprop(((owing c 0 ∗ waitPost m ρ c 6 ∗ pPts c 7 (sent m ρ c)) -∗ wp frame (wpE (defs₀ (F := F)) 𝒱₀ (c : Thread nD τ) none) Set.univ (kt (k0_pay6 (pr3 m ρ c).1)) Q)
          -∗ wp frame (wpE (defs₀ (F := F)) 𝒱₀ (c : Thread nD τ) none) Set.univ
            (k0_part13 i arg2 harg2 arg3 harg3 (Memref.whole cc0_scratch0) (Memref.isWhole_whole _) (Memref.whole cc0_scratch1) (Memref.isWhole_whole _) cc0_scratch2 cc0_scratch3 a1 a2 a3 a4 >>= kt) Q) := by
  simp only [k0_part13_eq_skeleton]; unfold k0_part13_skel
  simp only [Prog.lift, Prog.bind_op, Prog.bind_ret, Prog.pure_eq_ret]
  rw [pPts_whole]
  iintro ⟨#HR, Hw, HO, Hp⟩ Hk
  iapply (step_waits m ρ K c 6 rfl rfl rfl) $$ [Hw HO]
  · isplitr; · iexact HR
    isplitl [Hw] <;> iassumption
  iintro ⟨HO, Hw⟩
  iapply (wp_load 𝒱₀ (c : Thread nD τ) none Set.univ (m := pW) (Finset.subset_univ _)) $$ Hp; iintro Hp
  rw [show sent m ρ c = mk2 (pr3 m ρ c).1 (pr3 m ρ c).2 from rfl, read_row0 rfl]
  iapply Hk
  isplitl [HO]; · iexact HO
  isplitl [Hw] <;> iassumption

/-- The device's own rows and slots 0 to 2 loaded and merged. -/
theorem wp_part14 (v222 : FVec F S1x1024 .f32) {kt : (Σ' (_ : FVec F S1x1024 .f32), FVec F S1x1024 .f32) → Prog (TpuEff nD τ sig (Elt F) Λ₀ .tc) α} :
    iprop(pPts c 7 (sent m ρ c) ∗ scrR c (mk7 (got m ρ c)))
      ⊢ iprop(((pPts c 7 (sent m ρ c) ∗ scrR c (mk7 (got m ρ c))) -∗ wp frame (wpE (defs₀ (F := F)) 𝒱₀ (c : Thread nD τ) none) Set.univ
              (kt ⟨k0_pay21 v222 (pr3 m ρ c).2 (rowOf (got m ρ c 0) 0) (rowOf (got m ρ c 0) 1) (rowOf (got m ρ c 1) 0) (rowOf (got m ρ c 1) 1) (rowOf (got m ρ c 2) 0) (rowOf (got m ρ c 2) 1),
                k0_pay22 v222 (pr3 m ρ c).2 (rowOf (got m ρ c 0) 0) (rowOf (got m ρ c 0) 1) (rowOf (got m ρ c 1) 0) (rowOf (got m ρ c 1) 1) (rowOf (got m ρ c 2) 0) (rowOf (got m ρ c 2) 1)⟩) Q)
          -∗ wp frame (wpE (defs₀ (F := F)) 𝒱₀ (c : Thread nD τ) none) Set.univ
            (k0_part14 i arg2 harg2 arg3 harg3 (Memref.whole cc0_scratch0) (Memref.isWhole_whole _) (Memref.whole cc0_scratch1) (Memref.isWhole_whole _) cc0_scratch2 cc0_scratch3 v222 >>= kt) Q) := by
  simp only [k0_part14_eq_skeleton]; unfold k0_part14_skel
  simp only [Prog.lift, Prog.bind_op, Prog.bind_ret, Prog.pure_eq_ret]
  rw [pPts_whole]
  iintro ⟨Hp, Hr⟩ Hk
  iapply (wp_load 𝒱₀ (c : Thread nD τ) none Set.univ (m := pW) (Finset.subset_univ _)) $$ Hp; iintro Hp
  rw [show sent m ρ c = mk2 (pr3 m ρ c).1 (pr3 m ρ c).2 from rfl, read_row1 rfl]
  iapply (wp_load 𝒱₀ (c : Thread nD τ) none Set.univ (m := rW) (Finset.subset_univ _)) $$ Hr; iintro Hr
  rw [read_rrow 0 0 (o := ![0, 0, 0, 0]) rfl]
  iapply (wp_load 𝒱₀ (c : Thread nD τ) none Set.univ (m := rW) (Finset.subset_univ _)) $$ Hr; iintro Hr
  rw [read_rrow 0 1 (o := ![0, 0, 1, 0]) rfl]
  iapply (wp_load 𝒱₀ (c : Thread nD τ) none Set.univ (m := rW) (Finset.subset_univ _)) $$ Hr; iintro Hr
  rw [read_rrow 1 0 (o := ![0, 1, 0, 0]) rfl]
  iapply (wp_load 𝒱₀ (c : Thread nD τ) none Set.univ (m := rW) (Finset.subset_univ _)) $$ Hr; iintro Hr
  rw [read_rrow 1 1 (o := ![0, 1, 1, 0]) rfl]
  iapply (wp_load 𝒱₀ (c : Thread nD τ) none Set.univ (m := rW) (Finset.subset_univ _)) $$ Hr; iintro Hr
  rw [read_rrow 2 0 (o := ![0, 2, 0, 0]) rfl]
  iapply (wp_load 𝒱₀ (c : Thread nD τ) none Set.univ (m := rW) (Finset.subset_univ _)) $$ Hr; iintro Hr
  rw [read_rrow 2 1 (o := ![0, 2, 1, 0]) rfl]
  iapply Hk
  isplitl [Hp] <;> iassumption

/-- Slots 3 to 5 loaded and merged. -/
theorem wp_part15 (v256 v257 : FVec F S1x1024 .f32) {kt : (Σ' (_ : FVec F S1x1024 .f32), FVec F S1x1024 .f32) → Prog (TpuEff nD τ sig (Elt F) Λ₀ .tc) α} :
    scrR c (mk7 (got m ρ c))
      ⊢ iprop((scrR c (mk7 (got m ρ c)) -∗ wp frame (wpE (defs₀ (F := F)) 𝒱₀ (c : Thread nD τ) none) Set.univ
              (kt ⟨k0_pay36 v256 v257 (rowOf (got m ρ c 3) 0) (rowOf (got m ρ c 3) 1) (rowOf (got m ρ c 4) 0) (rowOf (got m ρ c 4) 1) (rowOf (got m ρ c 5) 0) (rowOf (got m ρ c 5) 1),
                k0_pay37 v256 v257 (rowOf (got m ρ c 3) 0) (rowOf (got m ρ c 3) 1) (rowOf (got m ρ c 4) 0) (rowOf (got m ρ c 4) 1) (rowOf (got m ρ c 5) 0) (rowOf (got m ρ c 5) 1)⟩) Q)
          -∗ wp frame (wpE (defs₀ (F := F)) 𝒱₀ (c : Thread nD τ) none) Set.univ
            (k0_part15 i arg2 harg2 arg3 harg3 (Memref.whole cc0_scratch0) (Memref.isWhole_whole _) (Memref.whole cc0_scratch1) (Memref.isWhole_whole _) cc0_scratch2 cc0_scratch3 v256 v257 >>= kt) Q) := by
  simp only [k0_part15_eq_skeleton]; unfold k0_part15_skel
  simp only [Prog.lift, Prog.bind_op, Prog.bind_ret, Prog.pure_eq_ret]
  iintro Hr Hk
  iapply (wp_load 𝒱₀ (c : Thread nD τ) none Set.univ (m := rW) (Finset.subset_univ _)) $$ Hr; iintro Hr
  rw [read_rrow 3 0 (o := ![0, 3, 0, 0]) rfl]
  iapply (wp_load 𝒱₀ (c : Thread nD τ) none Set.univ (m := rW) (Finset.subset_univ _)) $$ Hr; iintro Hr
  rw [read_rrow 3 1 (o := ![0, 3, 1, 0]) rfl]
  iapply (wp_load 𝒱₀ (c : Thread nD τ) none Set.univ (m := rW) (Finset.subset_univ _)) $$ Hr; iintro Hr
  rw [read_rrow 4 0 (o := ![0, 4, 0, 0]) rfl]
  iapply (wp_load 𝒱₀ (c : Thread nD τ) none Set.univ (m := rW) (Finset.subset_univ _)) $$ Hr; iintro Hr
  rw [read_rrow 4 1 (o := ![0, 4, 1, 0]) rfl]
  iapply (wp_load 𝒱₀ (c : Thread nD τ) none Set.univ (m := rW) (Finset.subset_univ _)) $$ Hr; iintro Hr
  rw [read_rrow 5 0 (o := ![0, 5, 0, 0]) rfl]
  iapply (wp_load 𝒱₀ (c : Thread nD τ) none Set.univ (m := rW) (Finset.subset_univ _)) $$ Hr; iintro Hr
  rw [read_rrow 5 1 (o := ![0, 5, 1, 0]) rfl]
  iapply Hk
  iexact Hr

end Parts

end Cert.ArgMax

end
-- ==== Proof.Last.lean ====
/-
# The last point
-/
module

public import proofs.«01_k».proof.Proof.Parts

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
/-- The last point: the last block; the barrier, which hands over the peers' slots; the seven copies; the seven pairs of
    waits; the merge, and the result stored. -/
theorem body3 (K : Dev nD × CI → ℕ) (c : Dev nD) (o : (cc0_stg1_0 : Ref sig .tc).ty.Contents (Elt F)) (Kt : PUnit → sProp 𝕄) :
    iprop(scrP c (pbuf (pr2 m ρ c)) ∗ xpts1 c (xblk m ρ c t0_3) ∗ opts c o ∗ records m ρ K ∗ after c ∗ owing c (owR c 7))
      ⊢ iprop(((scrP c (sent m ρ c) ∗ scrR c (mk7 (got m ρ c)) ∗ semsZero c ∗ xpts1 c (xblk m ρ c t0_3) ∗ opts c (outAt m ρ c) ∗ owing c 0) -∗ Kt ⟨⟩)
          -∗ wp frame (wpE (defs₀ (F := F)) 𝒱₀ (c : Thread nD τ) none) Set.univ
            (cc0_body (grid0.coords t0_3) (Memref.whole cc0_stg0_1) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) Kt) := by
  simp only [cc0_body_eq_skeleton]; unfold cc0_body_skel
  simp only [k0_part16_eq_skeleton]; unfold k0_part16_skel
  simp only [dif_neg c1_3, dif_pos c2_3, dif_neg c3_3, dif_pos c4_3, dif_pos c5_3, dif_pos c6_3, semWaitWord, Prog.lift, Prog.bind_op, Prog.bind_ret, Prog.pure_eq_ret, wp_deviceId]
  unfold after toksR toksS atS atR credR semsZero
  simp only [chain7]
  iintro ⟨Hp, Hx, Hout, #HR, ⟨⟨Hv0, Hv1, Hv2, Hv3, Hv4, Hv5, Hv6⟩, ⟨Hw0, Hw1, Hw2, Hw3, Hw4, Hw5, Hw6⟩, HaB, ⟨HaS0, HaS1, HaS2, HaS3, HaS4, HaS5, HaS6⟩, ⟨HaR0, HaR1, HaR2, HaR3, HaR4, HaR5, HaR6⟩, HcB, ⟨HcR0, HcR1, HcR2, HcR3, HcR4, HcR5, HcR6⟩, Hlev⟩, HO⟩ Hk
  iapply (wp_load 𝒱₀ (c : Thread nD τ) none Set.univ (m := Memref.whole cc0_stg0_1) (Finset.subset_univ _)) $$ Hx; iintro Hx
  rw [read_x1]
  iapply (wp_load 𝒱₀ (c : Thread nD τ) none Set.univ (m := pW) (Finset.subset_univ _)) $$ Hp; iintro Hp
  iapply (wp_load 𝒱₀ (c : Thread nD τ) none Set.univ (m := pW) (Finset.subset_univ _)) $$ Hp; iintro Hp
  iapply (wp_load 𝒱₀ (c : Thread nD τ) none Set.univ (m := pW) (Finset.subset_univ _)) $$ Hp; iintro Hp
  iapply (step_storeP c _) $$ Hp; iintro Hp
  iapply (wp_load 𝒱₀ (c : Thread nD τ) none Set.univ (m := pW) (Finset.subset_univ _)) $$ Hp; iintro Hp
  iapply (wp_load 𝒱₀ (c : Thread nD τ) none Set.univ (m := pW) (Finset.subset_univ _)) $$ Hp; iintro Hp
  iapply (step_storeP c _) $$ Hp; iintro Hp
  ihave Hp' := (Entails.of_eq ((next_stored c t0_3 (xblk m ρ c t0_3) (pr2 m ρ c)).trans (show scrP c (pbuf (next c t0_3 (xblk m ρ c t0_3) (pr2 m ρ c))) = scrP c (sent m ρ c) from rfl))) $$ Hp
  iapply (step_bar m ρ K c rfl) $$ [HO HcB HaB Hlev]
  · isplitr; · iexact HR
    isplitl [HO]; · iexact HO
    isplitl [HcB]; · iexact HcB
    isplitl [HaB] <;> iassumption
  iintro ⟨HO, HzB, Hsl⟩
  ihave Hsl' := (Entails.of_eq (bar_slots (F := F) c)) $$ Hsl
  icases Hsl' with ⟨Hs0, Hs1, Hs2, Hs3, Hs4, Hs5, Hs6⟩
  ihave Hpp := (Entails.of_eq (scrP_parts c (sent m ρ c))) $$ Hp'
  icases Hpp with ⟨Hp0, Hp1, Hp2, Hp3, Hp4, Hp5, Hp6, Hp7⟩
  ihave Hq0 : sendPre m ρ c 0 $$ [Hp0 Hs0 Hv0 Hw0]
  · unfold sendPre
    isplitl [Hp0]; · iexact Hp0
    isplitl [Hs0]; · iexact Hs0
    isplitl [Hw0] <;> iassumption
  ihave Hq1 : sendPre m ρ c 1 $$ [Hp1 Hs1 Hv1 Hw1]
  · unfold sendPre
    isplitl [Hp1]; · iexact Hp1
    isplitl [Hs1]; · iexact Hs1
    isplitl [Hw1] <;> iassumption
  ihave Hq2 : sendPre m ρ c 2 $$ [Hp2 Hs2 Hv2 Hw2]
  · unfold sendPre
    isplitl [Hp2]; · iexact Hp2
    isplitl [Hs2]; · iexact Hs2
    isplitl [Hw2] <;> iassumption
  ihave Hq3 : sendPre m ρ c 3 $$ [Hp3 Hs3 Hv3 Hw3]
  · unfold sendPre
    isplitl [Hp3]; · iexact Hp3
    isplitl [Hs3]; · iexact Hs3
    isplitl [Hw3] <;> iassumption
  ihave Hq4 : sendPre m ρ c 4 $$ [Hp4 Hs4 Hv4 Hw4]
  · unfold sendPre
    isplitl [Hp4]; · iexact Hp4
    isplitl [Hs4]; · iexact Hs4
    isplitl [Hw4] <;> iassumption
  ihave Hq5 : sendPre m ρ c 5 $$ [Hp5 Hs5 Hv5 Hw5]
  · unfold sendPre
    isplitl [Hp5]; · iexact Hp5
    isplitl [Hs5]; · iexact Hs5
    isplitl [Hw5] <;> iassumption
  ihave Hq6 : sendPre m ρ c 6 $$ [Hp6 Hs6 Hv6 Hw6]
  · unfold sendPre
    isplitl [Hp6]; · iexact Hp6
    isplitl [Hs6]; · iexact Hs6
    isplitl [Hw6] <;> iassumption
  iapply (wp_part3 m ρ K c) $$ [Hq0 HO]
  · isplitr; · iexact HR
    isplitr [HO]
    · iexact Hq0
    iexact HO
  iintro ⟨Hc0, HO⟩ %r3
  iapply (wp_part4 m ρ K c) $$ [Hq1 Hq2 HO]
  · isplitr; · iexact HR
    isplitr [HO]
    · isplitl [Hq1] <;> iassumption
    iexact HO
  iintro ⟨⟨Hc1, Hc2⟩, HO⟩ %r4
  iapply (wp_part5 m ρ K c) $$ [Hq3 HO]
  · isplitr; · iexact HR
    isplitr [HO]
    · iexact Hq3
    iexact HO
  iintro ⟨Hc3, HO⟩ %r5
  iapply (wp_part6 m ρ K c) $$ [Hq4 Hq5 HO]
  · isplitr; · iexact HR
    isplitr [HO]
    · isplitl [Hq4] <;> iassumption
    iexact HO
  iintro ⟨⟨Hc4, Hc5⟩, HO⟩ %r6
  iapply (step_copy m ρ K c 6 (dev14_eq c _) (o18 _) (o19 _) (o7 _)) $$ [Hq6 HO]
  · isplitr; · iexact HR
    isplitl [Hq6]; · iexact Hq6
    iexact HO
  iintro ⟨Hc6, HO⟩
  ihave Hq0 : waitPre (F := F) c 0 $$ [Hc0 HcR0 HaS0 HaR0]
  · unfold waitPre
    isplitl [Hc0]; · iexact Hc0
    isplitl [HcR0]; · iexact HcR0
    isplitl [HaS0] <;> iassumption
  ihave Hq1 : waitPre (F := F) c 1 $$ [Hc1 HcR1 HaS1 HaR1]
  · unfold waitPre
    isplitl [Hc1]; · iexact Hc1
    isplitl [HcR1]; · iexact HcR1
    isplitl [HaS1] <;> iassumption
  ihave Hq2 : waitPre (F := F) c 2 $$ [Hc2 HcR2 HaS2 HaR2]
  · unfold waitPre
    isplitl [Hc2]; · iexact Hc2
    isplitl [HcR2]; · iexact HcR2
    isplitl [HaS2] <;> iassumption
  ihave Hq3 : waitPre (F := F) c 3 $$ [Hc3 HcR3 HaS3 HaR3]
  · unfold waitPre
    isplitl [Hc3]; · iexact Hc3
    isplitl [HcR3]; · iexact HcR3
    isplitl [HaS3] <;> iassumption
  ihave Hq4 : waitPre (F := F) c 4 $$ [Hc4 HcR4 HaS4 HaR4]
  · unfold waitPre
    isplitl [Hc4]; · iexact Hc4
    isplitl [HcR4]; · iexact HcR4
    isplitl [HaS4] <;> iassumption
  ihave Hq5 : waitPre (F := F) c 5 $$ [Hc5 HcR5 HaS5 HaR5]
  · unfold waitPre
    isplitl [Hc5]; · iexact Hc5
    isplitl [HcR5]; · iexact HcR5
    isplitl [HaS5] <;> iassumption
  ihave Hq6 : waitPre (F := F) c 6 $$ [Hc6 HcR6 HaS6 HaR6]
  · unfold waitPre
    isplitl [Hc6]; · iexact Hc6
    isplitl [HcR6]; · iexact HcR6
    isplitl [HaS6] <;> iassumption
  iapply (wp_part7 m ρ K c) $$ [Hq0 HO]
  · isplitr; · iexact HR
    isplitl [Hq0]; · iexact Hq0
    iexact HO
  iintro ⟨HO, Hq0⟩ %r7
  iapply (wp_part8 m ρ K c) $$ [Hq1 HO]
  · isplitr; · iexact HR
    isplitl [Hq1]; · iexact Hq1
    iexact HO
  iintro ⟨HO, Hq1⟩ %r8
  iapply (wp_part9 m ρ K c) $$ [Hq2 HO]
  · isplitr; · iexact HR
    isplitl [Hq2]; · iexact Hq2
    iexact HO
  iintro ⟨HO, Hq2⟩ %r9
  iapply (wp_part10 m ρ K c) $$ [Hq3 HO]
  · isplitr; · iexact HR
    isplitl [Hq3]; · iexact Hq3
    iexact HO
  iintro ⟨HO, Hq3⟩ %r10
  iapply (wp_part11 m ρ K c) $$ [Hq4 HO]
  · isplitr; · iexact HR
    isplitl [Hq4]; · iexact Hq4
    iexact HO
  iintro ⟨HO, Hq4⟩ %r11
  iapply (wp_part12 m ρ K c) $$ [Hq5 HO]
  · isplitr; · iexact HR
    isplitl [Hq5]; · iexact Hq5
    iexact HO
  iintro ⟨HO, Hq5⟩ %r12
  iapply (wp_part13 m ρ K c) $$ [Hq6 HO Hp7]
  · isplitr; · iexact HR
    isplitl [Hq6]; · iexact Hq6
    isplitl [HO] <;> iassumption
  iintro ⟨HO, Hq6, Hp7⟩
  unfold waitPost
  icases Hq0 with ⟨HzS0, HzR0, Hp0, Hs0⟩
  icases Hq1 with ⟨HzS1, HzR1, Hp1, Hs1⟩
  icases Hq2 with ⟨HzS2, HzR2, Hp2, Hs2⟩
  icases Hq3 with ⟨HzS3, HzR3, Hp3, Hs3⟩
  icases Hq4 with ⟨HzS4, HzR4, Hp4, Hs4⟩
  icases Hq5 with ⟨HzS5, HzR5, Hp5, Hs5⟩
  icases Hq6 with ⟨HzS6, HzR6, Hp6, Hs6⟩
  ihave Hr : scrR c (mk7 (got m ρ c)) $$ [Hs0 Hs1 Hs2 Hs3 Hs4 Hs5 Hs6]
  · rw [scrR_slots]
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  iapply (wp_part14 m ρ c) $$ [Hp7 Hr]
  · isplitl [Hp7] <;> iassumption
  iintro ⟨Hp7, Hr⟩
  iapply (wp_part15 m ρ c) $$ Hr; iintro Hr
  iapply (wp_load 𝒱₀ (c : Thread nD τ) none Set.univ (m := rW) (Finset.subset_univ _)) $$ Hr; iintro Hr
  rw [read_rrow 6 0 (o := ![0, 6, 0, 0]) rfl]
  iapply (wp_load 𝒱₀ (c : Thread nD τ) none Set.univ (m := rW) (Finset.subset_univ _)) $$ Hr; iintro Hr
  rw [read_rrow 6 1 (o := ![0, 6, 1, 0]) rfl]
  iapply (wp_load 𝒱₀ (c : Thread nD τ) none Set.univ (m := oW) (Finset.subset_univ _)) $$ Hout; iintro Hout
  iapply (step_storeO c _) $$ Hout; iintro Hout
  iapply (wp_load 𝒱₀ (c : Thread nD τ) none Set.univ (m := oW) (Finset.subset_univ _)) $$ Hout; iintro Hout
  iapply (step_storeO c _) $$ Hout; iintro Hout
  rw [wp_ret]; imodintro
  iapply Hk
  isplitl [Hp0 Hp1 Hp2 Hp3 Hp4 Hp5 Hp6 Hp7]
  · rw [scrP_parts]
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  isplitl [Hr]; · iexact Hr
  isplitl [HzB HzS0 HzS1 HzS2 HzS3 HzS4 HzS5 HzS6 HzR0 HzR1 HzR2 HzR3 HzR4 HzR5 HzR6]
  · isplitl [HzB]; · iexact HzB
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [Hx]; · iexact Hx
  isplitl [Hout]
  · ihave Ho' := (Entails.of_eq (congrArg (fun g : (cc0_stg1_0 : Ref sig .tc).ty.Contents (Elt F) => (opts c g : sProp 𝕄)) (write_orows rfl rfl _ _ o _ _))) $$ Hout
    iexact Ho'
  iexact HO

end Cert.ArgMax

end
-- ==== Proof.Body.lean ====
/-
# The kernel's body at every point
-/
module

public import proofs.«01_k».proof.Proof.Last

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole staging buffer at contents `X`. -/
def stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

/-- The body depends on its windows' buffers only. -/
theorem body_congr (i : grid0.Coords) {a a' : Memref sig .tc .vmem S2048x1024 .bf16} {b b' : Memref sig .tc .vmem S2x1024 .f32} {ha ha' hb hb'} (h : a = a') (h' : b = b') :
    cc0_body (F := F) i a ha b hb (Memref.whole cc0_scratch0) (Memref.isWhole_whole _) (Memref.whole cc0_scratch1) (Memref.isWhole_whole _) cc0_scratch2 cc0_scratch3
      = cc0_body (F := F) i a' ha' b' hb' (Memref.whole cc0_scratch0) (Memref.isWhole_whole _) (Memref.whole cc0_scratch1) (Memref.isWhole_whole _) cc0_scratch2 cc0_scratch3 := by
  subst h h'; rfl

section Points
variable (c : Dev nD)

theorem before_x (t : Fin cfg0.N) (d) : (dats m ρ 0 c).before (0 : Fin 2) t d = xblk m ρ c t := by
  unfold Dat.before; rw [if_pos (fetch0_0 t)]; rfl

/-! What the pipeline hands the body at each point and takes back, the staging buffers named. -/

def pre0 : sProp 𝕄 := iprop(Φ m ρ c 0 ∗ (dats m ρ 0 c).owesAt () (t0_0 : Fin cfg0.N).castSucc
    ∗ (∃ d, stg c cc0_stg0_0 ((dats m ρ 0 c).before (0 : Fin 2) t0_0 d)) ∗ ∃ d, stg c cc0_stg1_0 ((dats m ρ 0 c).before (1 : Fin 2) t0_0 d))
def post0 : sProp 𝕄 := iprop(Φ m ρ c 1 ∗ (dats m ρ 0 c).owesAt () (t0_0 : Fin cfg0.N).succ
    ∗ stg c cc0_stg0_0 (xblk m ρ c t0_0) ∗ (∃ d, stg c cc0_stg1_0 ((dats m ρ 0 c).before (1 : Fin 2) t0_0 d)))

theorem point0 : pre0 m ρ c ⊢ wp frame (wpE (defs₀ (F := F)) 𝒱₀ (c : Thread nD τ) none) Set.univ
    (cc0_body (grid0.coords t0_0) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) (fun _ => post0 m ρ c) := by
  unfold pre0 post0 stg
  simp only [before_x]
  simp only [Φ]
  iintro ⟨⟨Hst, Hp, Hr⟩, Ho, ⟨%d, %fx, %hx, Hx⟩, Hout⟩
  subst hx
  iapply (body0 c (xblk m ρ c t0_0)  _) $$ [Hp Hx]
  · isplitl [Hp] <;> iassumption
  iintro ⟨Hp, Hx⟩
  unfold pr0
  isplitl [Hst Hp Hr]
  · isplitl [Hst]; · iexact Hst
    isplitl [Hp] <;> iassumption
  isplitl [Ho]; · iexact Ho
  isplitl [Hx]
  · iexists _; isplitr; · (ipureintro; rfl)
    iexact Hx
  iexact Hout

def pre1 : sProp 𝕄 := iprop(Φ m ρ c 1 ∗ (dats m ρ 0 c).owesAt () (t0_1 : Fin cfg0.N).castSucc
    ∗ (∃ d, stg c cc0_stg0_1 ((dats m ρ 0 c).before (0 : Fin 2) t0_1 d)) ∗ ∃ d, stg c cc0_stg1_0 ((dats m ρ 0 c).before (1 : Fin 2) t0_1 d))
def post1 : sProp 𝕄 := iprop(Φ m ρ c 2 ∗ (dats m ρ 0 c).owesAt () (t0_1 : Fin cfg0.N).succ
    ∗ stg c cc0_stg0_1 (xblk m ρ c t0_1) ∗ (∃ d, stg c cc0_stg1_0 ((dats m ρ 0 c).before (1 : Fin 2) t0_1 d)))

theorem point1 : pre1 m ρ c ⊢ wp frame (wpE (defs₀ (F := F)) 𝒱₀ (c : Thread nD τ) none) Set.univ
    (cc0_body (grid0.coords t0_1) (Memref.whole cc0_stg0_1) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) (fun _ => post1 m ρ c) := by
  unfold pre1 post1 stg
  simp only [before_x]
  simp only [Φ]
  iintro ⟨⟨Hst, Hp, Hr⟩, Ho, ⟨%d, %fx, %hx, Hx⟩, Hout⟩
  subst hx
  iapply (body1 c (xblk m ρ c t0_1) (pr0 m ρ c) _) $$ [Hp Hx]
  · isplitl [Hp] <;> iassumption
  iintro ⟨Hp, Hx⟩
  unfold pr1
  isplitl [Hst Hp Hr]
  · isplitl [Hst]; · iexact Hst
    isplitl [Hp] <;> iassumption
  isplitl [Ho]; · iexact Ho
  isplitl [Hx]
  · iexists _; isplitr; · (ipureintro; rfl)
    iexact Hx
  iexact Hout

def pre2 : sProp 𝕄 := iprop(Φ m ρ c 2 ∗ (dats m ρ 0 c).owesAt () (t0_2 : Fin cfg0.N).castSucc
    ∗ (∃ d, stg c cc0_stg0_0 ((dats m ρ 0 c).before (0 : Fin 2) t0_2 d)) ∗ ∃ d, stg c cc0_stg1_0 ((dats m ρ 0 c).before (1 : Fin 2) t0_2 d))
def post2 : sProp 𝕄 := iprop(Φ m ρ c 3 ∗ (dats m ρ 0 c).owesAt () (t0_2 : Fin cfg0.N).succ
    ∗ stg c cc0_stg0_0 (xblk m ρ c t0_2) ∗ (∃ d, stg c cc0_stg1_0 ((dats m ρ 0 c).before (1 : Fin 2) t0_2 d)))

theorem point2 : pre2 m ρ c ⊢ wp frame (wpE (defs₀ (F := F)) 𝒱₀ (c : Thread nD τ) none) Set.univ
    (cc0_body (grid0.coords t0_2) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) (fun _ => post2 m ρ c) := by
  unfold pre2 post2 stg
  simp only [before_x]
  simp only [Φ]; unfold start Dat.owesAt Pipeline.owesWithin
  rw [show (dats m ρ 0 c).owed (t0_2 : Fin cfg0.N).castSucc = owB c 7 from rfl, show (dats m ρ 0 c).owed (t0_2 : Fin cfg0.N).succ = owR c 7 from rfl]
  iintro ⟨⟨⟨⟨%K, #HR⟩, HtB, Haf⟩, Hp, Hr⟩, ⟨%W, %hW, HO⟩, ⟨%d, %fx, %hx, Hx⟩, Hout⟩
  subst hx
  iapply (body2 m ρ K c (xblk m ρ c t0_2) (pr1 m ρ c) _) $$ [Hp Hx HtB HO Hr]
  · isplitl [Hp]; · iexact Hp
    isplitl [Hx]; · iexact Hx
    isplitr; · iexact HR
    isplitl [HtB]; · iexact HtB
    isplitl [HO]
    · unfold owing; iexists W; iexact HO
    iexact Hr
  iintro ⟨Hp, Hx, HO⟩
  unfold pr2
  isplitl [Haf Hp]
  · isplitr; · (iexists K; iexact HR)
    isplitl [Haf] <;> iassumption
  isplitl [HO]
  · unfold owing; icases HO with ⟨%W', HO⟩
    iexists W'; isplitr
    · ipureintro; exact fun _ _ => Or.inl trivial
    iexact HO
  isplitl [Hx]
  · iexists _; isplitr; · (ipureintro; rfl)
    iexact Hx
  iexact Hout

def pre3 : sProp 𝕄 := iprop(Φ m ρ c 3 ∗ (dats m ρ 0 c).owesAt () (t0_3 : Fin cfg0.N).castSucc
    ∗ (∃ d, stg c cc0_stg0_1 ((dats m ρ 0 c).before (0 : Fin 2) t0_3 d)) ∗ ∃ d, stg c cc0_stg1_0 ((dats m ρ 0 c).before (1 : Fin 2) t0_3 d))
def post3 : sProp 𝕄 := iprop(Φ m ρ c 4 ∗ (dats m ρ 0 c).owesAt () (t0_3 : Fin cfg0.N).succ
    ∗ stg c cc0_stg0_1 (xblk m ρ c t0_3) ∗ stg c cc0_stg1_0 (outAt m ρ c))

theorem point3 : pre3 m ρ c ⊢ wp frame (wpE (defs₀ (F := F)) 𝒱₀ (c : Thread nD τ) none) Set.univ
    (cc0_body (grid0.coords t0_3) (Memref.whole cc0_stg0_1) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) (fun _ => post3 m ρ c) := by
  unfold pre3 post3 stg
  simp only [before_x]
  simp only [Φ]; unfold Dat.owesAt Pipeline.owesWithin
  rw [show (dats m ρ 0 c).owed (t0_3 : Fin cfg0.N).castSucc = owR c 7 from rfl, show (dats m ρ 0 c).owed (t0_3 : Fin cfg0.N).succ = 0 from rfl]
  iintro ⟨⟨⟨%K, #HR⟩, Haf, Hp⟩, ⟨%W, %hW, HO⟩, ⟨%d, %fx, %hx, Hx⟩, ⟨%d', %fo, %ho, Hout⟩⟩
  subst hx
  iapply (body3 m ρ K c fo _) $$ [Hp Hx Hout Haf HO]
  · isplitl [Hp]; · iexact Hp
    isplitl [Hx]; · iexact Hx
    isplitl [Hout]; · iexact Hout
    isplitr; · iexact HR
    isplitl [Haf]; · iexact Haf
    unfold owing; iexists W; iexact HO
  iintro ⟨Hp, Hr, Hz, Hx, Hout, HO⟩
  isplitl [Hp Hr Hz]
  · isplitl [Hp]; · (iexists _; iexact Hp)
    isplitl [Hr]; · (iexists _; iexact Hr)
    iexact Hz
  isplitl [HO]
  · unfold owing; icases HO with ⟨%W', HO⟩
    iexists W'; isplitr
    · ipureintro; exact fun _ _ => Or.inl trivial
    iexact HO
  isplitl [Hx]
  · iexists _; isplitr; · (ipureintro; rfl)
    iexact Hx
  iexists _; isplitr; · (ipureintro; rfl)
  iexact Hout

theorem slotx_0 : cfg0.slots t0_0 (0 : Fin 2) = (0 : Fin 2) := by decide +kernel
theorem sloto_0 : cfg0.slots t0_0 (1 : Fin 2) = (0 : Fin 1) := Subsingleton.elim _ _
theorem stx_0 : stage0_0 (cfg0.slots t0_0 (0 : Fin 2)) = Memref.whole cc0_stg0_0 :=
  (congrArg stage0_0 slotx_0).trans rfl
theorem sto_0 : stage0_1 (cfg0.slots t0_0 (1 : Fin 2)) = Memref.whole cc0_stg1_0 :=
  (congrArg stage0_1 sloto_0).trans rfl
theorem bodyAt_0 : bodyAt0 (F := F) t0_0 = (cc0_body (grid0.coords t0_0) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) :=
  body_congr _ stx_0 sto_0
theorem idle_0 : idle0 1 (grid0.coords t0_0) = true := by decide +kernel
theorem flush_0 : (win0 1).flush t0_0 = false := by decide +kernel
theorem obligation0 :
    iprop((dats m ρ 0 c).Φ (t0_0 : Fin cfg0.N).castSucc ∗ (dats m ρ 0 c).owesAt () (t0_0 : Fin cfg0.N).castSucc
        ∗ (∃ d, owns (c : Thread nD τ) (stage0_0 (cfg0.slots t0_0 (0 : Fin 2))) fullShare ((dats m ρ 0 c).before (0 : Fin 2) t0_0 d))
        ∗ ∃ d, owns (c : Thread nD τ) (stage0_1 (cfg0.slots t0_0 (1 : Fin 2))) fullShare ((dats m ρ 0 c).before (1 : Fin 2) t0_0 d))
      ⊢ wp frame (wpE (defs₀ (F := F)) 𝒱₀ (c : Thread nD τ) none) Set.univ (bodyAt0 t0_0) fun _ =>
        iprop((dats m ρ 0 c).Φ (t0_0 : Fin cfg0.N).succ ∗ (dats m ρ 0 c).owesAt () (t0_0 : Fin cfg0.N).succ
          ∗ owns (c : Thread nD τ) (stage0_0 (cfg0.slots t0_0 (0 : Fin 2))) fullShare ((dats m ρ 0 c).after (0 : Fin 2) t0_0)
          ∗ ∃ d, owns (c : Thread nD τ) (stage0_1 (cfg0.slots t0_0 (1 : Fin 2))) fullShare ((dats m ρ 0 c).before (1 : Fin 2) t0_0 d)) := by
  rw [bodyAt_0, stx_0, sto_0]
  simp only [owns_whole_eq]
  exact point0 m ρ c

theorem slotx_1 : cfg0.slots t0_1 (0 : Fin 2) = (1 : Fin 2) := by decide +kernel
theorem sloto_1 : cfg0.slots t0_1 (1 : Fin 2) = (0 : Fin 1) := Subsingleton.elim _ _
theorem stx_1 : stage0_0 (cfg0.slots t0_1 (0 : Fin 2)) = Memref.whole cc0_stg0_1 :=
  (congrArg stage0_0 slotx_1).trans rfl
theorem sto_1 : stage0_1 (cfg0.slots t0_1 (1 : Fin 2)) = Memref.whole cc0_stg1_0 :=
  (congrArg stage0_1 sloto_1).trans rfl
theorem bodyAt_1 : bodyAt0 (F := F) t0_1 = (cc0_body (grid0.coords t0_1) (Memref.whole cc0_stg0_1) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) :=
  body_congr _ stx_1 sto_1
theorem idle_1 : idle0 1 (grid0.coords t0_1) = true := by decide +kernel
theorem flush_1 : (win0 1).flush t0_1 = false := by decide +kernel
theorem obligation1 :
    iprop((dats m ρ 0 c).Φ (t0_1 : Fin cfg0.N).castSucc ∗ (dats m ρ 0 c).owesAt () (t0_1 : Fin cfg0.N).castSucc
        ∗ (∃ d, owns (c : Thread nD τ) (stage0_0 (cfg0.slots t0_1 (0 : Fin 2))) fullShare ((dats m ρ 0 c).before (0 : Fin 2) t0_1 d))
        ∗ ∃ d, owns (c : Thread nD τ) (stage0_1 (cfg0.slots t0_1 (1 : Fin 2))) fullShare ((dats m ρ 0 c).before (1 : Fin 2) t0_1 d))
      ⊢ wp frame (wpE (defs₀ (F := F)) 𝒱₀ (c : Thread nD τ) none) Set.univ (bodyAt0 t0_1) fun _ =>
        iprop((dats m ρ 0 c).Φ (t0_1 : Fin cfg0.N).succ ∗ (dats m ρ 0 c).owesAt () (t0_1 : Fin cfg0.N).succ
          ∗ owns (c : Thread nD τ) (stage0_0 (cfg0.slots t0_1 (0 : Fin 2))) fullShare ((dats m ρ 0 c).after (0 : Fin 2) t0_1)
          ∗ ∃ d, owns (c : Thread nD τ) (stage0_1 (cfg0.slots t0_1 (1 : Fin 2))) fullShare ((dats m ρ 0 c).before (1 : Fin 2) t0_1 d)) := by
  rw [bodyAt_1, stx_1, sto_1]
  simp only [owns_whole_eq]
  exact point1 m ρ c

theorem slotx_2 : cfg0.slots t0_2 (0 : Fin 2) = (0 : Fin 2) := by decide +kernel
theorem sloto_2 : cfg0.slots t0_2 (1 : Fin 2) = (0 : Fin 1) := Subsingleton.elim _ _
theorem stx_2 : stage0_0 (cfg0.slots t0_2 (0 : Fin 2)) = Memref.whole cc0_stg0_0 :=
  (congrArg stage0_0 slotx_2).trans rfl
theorem sto_2 : stage0_1 (cfg0.slots t0_2 (1 : Fin 2)) = Memref.whole cc0_stg1_0 :=
  (congrArg stage0_1 sloto_2).trans rfl
theorem bodyAt_2 : bodyAt0 (F := F) t0_2 = (cc0_body (grid0.coords t0_2) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) :=
  body_congr _ stx_2 sto_2
theorem idle_2 : idle0 1 (grid0.coords t0_2) = true := by decide +kernel
theorem flush_2 : (win0 1).flush t0_2 = false := by decide +kernel
theorem obligation2 :
    iprop((dats m ρ 0 c).Φ (t0_2 : Fin cfg0.N).castSucc ∗ (dats m ρ 0 c).owesAt () (t0_2 : Fin cfg0.N).castSucc
        ∗ (∃ d, owns (c : Thread nD τ) (stage0_0 (cfg0.slots t0_2 (0 : Fin 2))) fullShare ((dats m ρ 0 c).before (0 : Fin 2) t0_2 d))
        ∗ ∃ d, owns (c : Thread nD τ) (stage0_1 (cfg0.slots t0_2 (1 : Fin 2))) fullShare ((dats m ρ 0 c).before (1 : Fin 2) t0_2 d))
      ⊢ wp frame (wpE (defs₀ (F := F)) 𝒱₀ (c : Thread nD τ) none) Set.univ (bodyAt0 t0_2) fun _ =>
        iprop((dats m ρ 0 c).Φ (t0_2 : Fin cfg0.N).succ ∗ (dats m ρ 0 c).owesAt () (t0_2 : Fin cfg0.N).succ
          ∗ owns (c : Thread nD τ) (stage0_0 (cfg0.slots t0_2 (0 : Fin 2))) fullShare ((dats m ρ 0 c).after (0 : Fin 2) t0_2)
          ∗ ∃ d, owns (c : Thread nD τ) (stage0_1 (cfg0.slots t0_2 (1 : Fin 2))) fullShare ((dats m ρ 0 c).before (1 : Fin 2) t0_2 d)) := by
  rw [bodyAt_2, stx_2, sto_2]
  simp only [owns_whole_eq]
  exact point2 m ρ c

theorem slotx_3 : cfg0.slots t0_3 (0 : Fin 2) = (1 : Fin 2) := by decide +kernel
theorem sloto_3 : cfg0.slots t0_3 (1 : Fin 2) = (0 : Fin 1) := Subsingleton.elim _ _
theorem stx_3 : stage0_0 (cfg0.slots t0_3 (0 : Fin 2)) = Memref.whole cc0_stg0_1 :=
  (congrArg stage0_0 slotx_3).trans rfl
theorem sto_3 : stage0_1 (cfg0.slots t0_3 (1 : Fin 2)) = Memref.whole cc0_stg1_0 :=
  (congrArg stage0_1 sloto_3).trans rfl
theorem bodyAt_3 : bodyAt0 (F := F) t0_3 = (cc0_body (grid0.coords t0_3) (Memref.whole cc0_stg0_1) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) :=
  body_congr _ stx_3 sto_3
theorem idle_3 : idle0 1 (grid0.coords t0_3) = false := by decide +kernel

theorem obligation3 :
    iprop((dats m ρ 0 c).Φ (t0_3 : Fin cfg0.N).castSucc ∗ (dats m ρ 0 c).owesAt () (t0_3 : Fin cfg0.N).castSucc
        ∗ (∃ d, owns (c : Thread nD τ) (stage0_0 (cfg0.slots t0_3 (0 : Fin 2))) fullShare ((dats m ρ 0 c).before (0 : Fin 2) t0_3 d))
        ∗ ∃ d, owns (c : Thread nD τ) (stage0_1 (cfg0.slots t0_3 (1 : Fin 2))) fullShare ((dats m ρ 0 c).before (1 : Fin 2) t0_3 d))
      ⊢ wp frame (wpE (defs₀ (F := F)) 𝒱₀ (c : Thread nD τ) none) Set.univ (bodyAt0 t0_3) fun _ =>
        iprop((dats m ρ 0 c).Φ (t0_3 : Fin cfg0.N).succ ∗ (dats m ρ 0 c).owesAt () (t0_3 : Fin cfg0.N).succ
          ∗ owns (c : Thread nD τ) (stage0_0 (cfg0.slots t0_3 (0 : Fin 2))) fullShare ((dats m ρ 0 c).after (0 : Fin 2) t0_3)
          ∗ owns (c : Thread nD τ) (stage0_1 (cfg0.slots t0_3 (1 : Fin 2))) fullShare ((dats m ρ 0 c).after (1 : Fin 2) t0_3)) := by
  rw [bodyAt_3, stx_3, sto_3]
  simp only [owns_whole_eq]
  exact point3 m ρ c

end Points

/-- The library's body obligation on core `c`. -/
theorem body_obligation (c : Dev nD) : BodyObligation (dats (F := F) m ρ 0 c) (defs₀ (F := F)) 𝒱₀ () Set.univ := fun t => by
  rw [bigSep_W0, bigSep_W0]
  rcases fin_N0 t with rfl | rfl | rfl | rfl
  · simp only [idle_0, flush_0]
    exact obligation0 m ρ c
  · simp only [idle_1, flush_1]
    exact obligation1 m ρ c
  · simp only [idle_2, flush_2]
    exact obligation2 m ρ c
  · simp only [idle_3]
    exact obligation3 m ρ c

end Cert.ArgMax

end
-- ==== Proof.Launch.lean ====
/-
# The launch: the exchange's cells funded, its tokens dealt, and the run of all eight devices
-/
module

public import proofs.«01_k».proof.Proof.Body
public import Idealize.ShloMosaic.Lib.Pipeline.CollectiveSegs

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens dealt -/

/-- The kernel's own semaphores: seven for sending, seven for receiving. -/
abbrev osem (k : Fin 7 ⊕ Fin 7) : SemLoc sig := csem (.inr k)

set_option maxRecDepth 8000 in
theorem ownSemFacts : Pipeline.OwnSemFacts cfg0.spec osem where
  isScoped := by decide
  inj := fun a b h => Sum.inr.inj (csem_injective h)
  disj := by decide

theorem share_eq (c : Dev nD) (w : Fin cfg0.W) : (dats m ρ 0 c).share w = fullShare := by unfold Dat.share; split <;> rfl

def exCells : Finset (GSem nD τ sig) := Finset.univ.map ⟨kcell, kcell_injective⟩

/-- The tokens as minted: a device's seven barrier duties, the one duty of each send cell and of each receive cell. -/
abbrev TI : Type := Fin 7 ⊕ (Fin 7 ⊕ Fin 7)
def tokCell : TI → CI × Fin 7
  | .inl k => (iB, k)
  | .inr (.inl k) => (iS k, 0)
  | .inr (.inr k) => (iR k, 0)
theorem tokCell_injective : Function.Injective tokCell := by
  intro a b h
  rcases a with a | a | a <;> rcases b with b | b | b <;> simp only [tokCell, Prod.mk.injEq, Sum.inl.injEq, Sum.inr.injEq, reduceCtorEq, false_and, true_and, and_true] at h <;> rw [h]
abbrev tokOf (x : Dev nD × TI) : GSem nD τ sig × ℕ × Fin 7 := (kcell (x.1, (tokCell x.2).1), 0, (tokCell x.2).2)
theorem tokOf_injective : Function.Injective tokOf := by
  rintro ⟨c, a⟩ ⟨c', a'⟩ h
  have h1 : ((c, (tokCell a).1) : Dev nD × CI) = (c', (tokCell a').1) := kcell_injective (congrArg (fun x : GSem nD τ sig × ℕ × Fin 7 => x.1) h)
  have h2 : (tokCell a).2 = (tokCell a').2 := congrArg (fun x : GSem nD τ sig × ℕ × Fin 7 => x.2.2) h
  have h3 : tokCell a = tokCell a' := Prod.ext (congrArg Prod.snd h1) h2
  exact Prod.ext (congrArg (fun x : Dev nD × CI => x.1) h1) (tokCell_injective h3)
def exToks : Finset (GSem nD τ sig × ℕ × Fin 7) := Finset.univ.map ⟨tokOf, tokOf_injective⟩

def u₀ : UU := (initOf (Pipeline.cells cfgs cellOf_inj) (Pipeline.launchToks cfgs cellOf_inj), initOf exCells exToks)

/-- The tokens of a device's own cells. -/
def ownToks (c : Dev nD) : sProp 𝕄 :=
  iprop((bigSep Finset.univ fun k : Fin 7 => dutyTok EX (barCell c) 0 k) ∗ (bigSep Finset.univ fun k : Fin 7 => dutyTok EX (sendCell c k) 0 0)
    ∗ bigSep Finset.univ fun k : Fin 7 => dutyTok EX (recvCell c k) 0 0)

/-- What the launch deals a device: its cells' first rounds, its positions, its cells' tokens. -/
def dealt (c : Dev nD) : sProp 𝕄 :=
  iprop((bigSep Finset.univ fun i : CI => roundState EX (Rd m ρ) (kcell (c, i)) 0)
    ∗ ((bigSep Finset.univ fun i : CI => atPos EX (kcell (c, i)) 0 ∅ 0) ∗ bigSep Finset.univ fun i : CI => reached EX (kcell (c, i)) 0) ∗ ownToks c)

omit [FloatOps F] in
theorem over_cells (Φ : GSem nD τ sig → sProp 𝕄) : bigSep exCells Φ = bigSep Finset.univ fun c : Dev nD => bigSep Finset.univ fun i : CI => Φ (kcell (c, i)) := by
  unfold exCells; rw [bigSep_map, bigSep_univ_prod]; rfl
omit [FloatOps F] in
theorem over_toks : bigSep exToks (fun x => (dutyTok EX x.1 x.2.1 x.2.2 : sProp 𝕄)) = bigSep Finset.univ fun c : Dev nD => ownToks c := by
  unfold exToks; rw [bigSep_map, bigSep_univ_prod]
  exact bigSep_congr fun c _ => by unfold ownToks; rw [bigSep_univ_sum, bigSep_univ_sum]; rfl

theorem fund_exchange : BI.own (EX (initOf exCells exToks)) ⊢ (|==> bigSep Finset.univ (dealt m ρ) : sProp 𝕄) := by
  iintro HX
  imod (Rounds.fund EX (Rd m ρ) exCells exToks) $$ HX with ⟨Hst, Hr, Hat, Htok⟩
  imodintro
  ihave Hst' := (Entails.of_eq (over_cells fun g => roundState EX (Rd m ρ) g 0)) $$ Hst
  ihave Hat' := (Entails.of_eq (over_cells fun g => atPos EX g 0 ∅ 0)) $$ Hat
  ihave Hr' := (Entails.of_eq (over_cells fun g => reached EX g 0)) $$ Hr
  ihave Htok' := (Entails.of_eq over_toks) $$ Htok
  unfold dealt; simp only [bigSep_sep']
  isplitl [Hst']; · iexact Hst'
  isplitl [Hat' Hr']
  · isplitl [Hat'] <;> iassumption
  iexact Htok'

/-! ## The semaphores, all at zero -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 7 => semVal (sendCell c k) 0) ∗ bigSep Finset.univ fun k : Fin 7 => semVal (recvCell c k) 0) := by
  unfold Pipeline.ownSems0; rw [bigSep_univ_sum]; rfl

omit [FloatOps F] in
/-- All fifteen of a device's cells. -/
theorem fifteen (Φ : CI → sProp 𝕄) : bigSep Finset.univ Φ
    = iprop(Φ iB ∗ (bigSep Finset.univ fun k : Fin 7 => Φ (iS k)) ∗ bigSep Finset.univ fun k : Fin 7 => Φ (iR k)) := by
  rw [bigSep_univ_sum, bigSep_univ_sum, Finset.univ_unique, bigSep_singleton]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, fifteen]
  iintro ⟨HO, HB⟩
  isplitl [HB]; · iexact HB
  iexact HO

/-! ## The invariants allocated, the tokens dealt round -/

theorem alloc_core (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun i : CI => iprop(∃ κ : ℕ, cellInv EX (Rd m ρ) κ (kcell (c, i))))
          ∗ ((bigSep Finset.univ fun i : CI => atPos EX (kcell (c, i)) 0 ∅ 0) ∗ bigSep Finset.univ fun i : CI => reached EX (kcell (c, i)) 0) ∗ ownToks c) := by
  unfold dealt
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState EX (Rd m ρ) (kcell (c, i)) 0)
      ⊢ (|={Set.univ}=> bigSep Finset.univ fun i : CI => iprop(∃ κ : ℕ, cellInv EX (Rd m ρ) κ (kcell (c, i))) : sProp 𝕄) from by
        rw [← bigSep_sep']
        exact (bigSep_mono fun i _ => (Rounds.body_intro EX (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Summing over the devices what each holds for every `k` of the device `k + 1` places further is summing what each
    holds of itself. -/
theorem round_turn (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer c k) k := by
  rw [← bigSep_univ_prod (fun x : Dev nD × Fin 7 => Φ x.1 x.2), ← bigSep_univ_prod (fun x : Dev nD × Fin 7 => Φ (peer x.1 x.2) x.2)]
  exact bigSep_univ_equiv (⟨fun x => (peer x.1 x.2, x.2), fun x => (back x.1 x.2, x.2), fun x => Prod.ext (back_peer _ _) rfl, fun x => Prod.ext (peer_back _ _) rfl⟩ : Dev nD × Fin 7 ≃ Dev nD × Fin 7)
    fun x => Φ x.1 x.2

omit [FloatOps F] in
theorem toks_dealt : (bigSep Finset.univ fun c : Dev nD => (ownToks c : sProp 𝕄)) ⊢ bigSep Finset.univ fun c : Dev nD => iprop(toksB c ∗ toksR c ∗ toksS c) := by
  unfold ownToks toksB toksR toksS
  rw [bigSep_sep', bigSep_sep', bigSep_sep', bigSep_sep',
    round_turn (fun c k => (dutyTok EX (barCell c) 0 k : sProp 𝕄)), round_turn (fun c k => (dutyTok EX (recvCell c k) 0 0 : sProp 𝕄))]
  iintro ⟨H1, H2, H3⟩
  isplitl [H1]; · iexact H1
  isplitl [H3] <;> iassumption

omit [FloatOps F] in
theorem positions : (bigSep Finset.univ fun c : Dev nD => bigSep Finset.univ fun i : CI => (atPos EX (kcell (c, i)) 0 ∅ 0 : sProp 𝕄))
    = bigSep Finset.univ fun c : Dev nD => iprop(atB c ∗ atS c ∗ atR c) :=
  congrArg _ (funext fun c => by unfold atB atS atR; rw [fifteen]; rfl)

/-- What the global step leaves each device. -/
def ghost (c : Dev nD) : sProp 𝕄 := iprop((∃ K, records m ρ K) ∗ (toksB c ∗ toksR c ∗ toksS c) ∗ atB c ∗ atS c ∗ atR c)

theorem regroup :
    (bigSep Finset.univ fun c : Dev nD => iprop((bigSep Finset.univ fun i : CI => iprop(∃ κ : ℕ, cellInv EX (Rd m ρ) κ (kcell (c, i))))
          ∗ ((bigSep Finset.univ fun i : CI => atPos EX (kcell (c, i)) 0 ∅ 0) ∗ bigSep Finset.univ fun i : CI => reached EX (kcell (c, i)) 0) ∗ ownToks c) : sProp 𝕄)
      ⊢ bigSep Finset.univ (ghost m ρ) := by
  rw [bigSep_sep', bigSep_sep', bigSep_sep', ← bigSep_univ_prod (fun ci : Dev nD × CI => iprop(∃ κ : ℕ, cellInv EX (Rd m ρ) κ (kcell ci))),
    ← bigSep_univ_prod (fun ci : Dev nD × CI => (reached EX (kcell ci) 0 : sProp 𝕄))]
  iintro ⟨HI, ⟨Hat, #HR⟩, Htok⟩
  ihave HK := (BI.bigSep_exists_pi Finset.univ (fun (ci : Dev nD × CI) (κ : ℕ) => (cellInv EX (Rd m ρ) κ (kcell ci) : sProp 𝕄))) $$ HI
  icases HK with ⟨%K, #HI⟩
  ihave Htk := (toks_dealt (F := F)) $$ Htok
  iapply (bigSep_with_persistent (R := records m ρ K) (S := Finset.univ) (Φ := fun c : Dev nD => iprop((toksB c ∗ toksR c ∗ toksS c) ∗ atB c ∗ atS c ∗ atR c)) (Ψ := ghost m ρ) fun c _ => by
    unfold ghost
    iintro ⟨#H, H'⟩
    isplitr; · (iexists K; iexact H)
    iexact H')
  isplitr
  · unfold records; isplitl; · iexact HI
    iexact HR
  · iapply (Entails.of_eq (bigSep_sep' (s := Finset.univ) (Φ := fun c : Dev nD => iprop(toksB c ∗ toksR c ∗ toksS c)) (Ψ := fun c : Dev nD => iprop(atB c ∗ atS c ∗ atR c))).symm)
    isplitl [Htk]; · iexact Htk
    iapply (Entails.of_eq (positions (F := F)))
    iexact Hat

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ghost m ρ) :=
  ((bigSep_mono fun c _ => alloc_core m ρ c).trans (bigSep_fupd _ _)).trans (BI.fupd_mono (regroup m ρ))

/-! ## The launch credit -/

theorem owB_sum (c : Dev nD) : owB c 7 = (∑ k : Fin 7, tallyAt (recvCell (peer c k) k) () N) + ∑ k : Fin 7, (tallyAt (barCell (peer c k)) () 1 : CellTallies nD τ sig Unit) := by
  rw [Fin.sum_univ_seven, Fin.sum_univ_seven]
  show ((((((((((((((0 + tallyAt (recvCell (peer c 6) 6) () N) + tallyAt (recvCell (peer c 5) 5) () N) + tallyAt (recvCell (peer c 4) 4) () N)
    + tallyAt (recvCell (peer c 3) 3) () N) + tallyAt (recvCell (peer c 2) 2) () N) + tallyAt (recvCell (peer c 1) 1) () N) + tallyAt (recvCell (peer c 0) 0) () N)
    + tallyAt (barCell (peer c 6)) () 1) + tallyAt (barCell (peer c 5)) () 1) + tallyAt (barCell (peer c 4)) () 1) + tallyAt (barCell (peer c 3)) () 1)
    + tallyAt (barCell (peer c 2)) () 1) + tallyAt (barCell (peer c 1)) () 1) + tallyAt (barCell (peer c 0)) () 1) = _
  rw [zero_add]; ac_rfl

omit [FloatOps F] in
theorem creds (c : Dev nD) : (Pipeline.launchCred (fun d => owB d 7) c : sProp 𝕄) ⊢ iprop(credB c ∗ credR c) := by
  rw [show (fun d : Dev nD => owB d 7) = fun d => (∑ k : Fin 7, tallyAt (recvCell (peer d k) k) () N) + ∑ k : Fin 7, (tallyAt (barCell (peer d k)) () 1 : CellTallies nD τ sig Unit) from funext owB_sum,
    Pipeline.launchCred_add, Pipeline.launchCred_sum, Pipeline.launchCred_sum]
  unfold credB credR
  have hB : (cred (tallyAt (barCell c) () 7) : sProp 𝕄) = bigSep Finset.univ fun _ : Fin 7 => cred (tallyAt (barCell c) () 1) := by
    rw [← Pipeline.cred_finsetSum]
    refine congrArg cred ?_
    rw [Fin.sum_univ_seven]
    simp only [tallyAt_add]
  rw [hB]
  have h1 : (bigSep Finset.univ fun k : Fin 7 => (Pipeline.launchCred (fun d => tallyAt (barCell (peer d k)) () 1) c : sProp 𝕄))
      ⊢ bigSep Finset.univ fun _ : Fin 7 => cred (tallyAt (barCell c) () 1) :=
    bigSep_mono fun k _ => Pipeline.launchCred_tallyAt (.reg barS) (fun d => peer d k) (fun d => back d k) (fun d => peer_back d k) (fun d => back_peer d k) () 1 c
  have h2 : (bigSep Finset.univ fun k : Fin 7 => (Pipeline.launchCred (fun d => tallyAt (recvCell (peer d k) k) () N) c : sProp 𝕄))
      ⊢ bigSep Finset.univ fun k : Fin 7 => cred (tallyAt (recvCell c k) () N) :=
    bigSep_mono fun k _ => Pipeline.launchCred_tallyAt (.dma (recvS k)) (fun d => peer d k) (fun d => back d k) (fun d => peer_back d k) (fun d => back_peer d k) () N c
  iintro ⟨H1, H2⟩
  isplitl [H2]
  · iapply h1; iexact H2
  · iapply h2; iexact H1

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (fun d => owB d 7) c ∗ prngReg c (ρ c) ∗ ghost m ρ c)
      ⊢ |={Set.univ}=> iprop(start m ρ c ∗ emp) := by
  iintro ⟨-, Hlev, Hcr, -, HG⟩
  ihave Hc := (creds (F := F) c) $$ Hcr
  icases Hc with ⟨HB, HN⟩
  imodintro
  unfold ghost start after
  icases HG with ⟨HR, ⟨HtB, HtR, HtS⟩, HaB, HaS, HaR⟩
  isplitl
  · isplitl [HR]; · iexact HR
    isplitl [HtB]; · iexact HtB
    isplitl [HtR]; · iexact HtR
    isplitl [HtS]; · iexact HtS
    isplitl [HaB]; · iexact HaB
    isplitl [HaS]; · iexact HaS
    isplitl [HaR]; · iexact HaR
    isplitl [HB]; · iexact HB
    isplitl [HN] <;> iassumption
  · iempintro

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ m ρ c 0 from rfl, scopedRest0_eq]
  simp only [Φ]
  iintro ⟨Hs, -, Hr⟩
  isplitl [Hs] <;> iassumption

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ m ρ c 4 from rfl, scopedRest0_eq, ownSems0_eq, unscopedSems0_eq]
  simp only [Φ]; unfold semsZero
  iintro ⟨Hp, Hr, HzB, HzS, HzR⟩
  isplitl [HzB]; · iexact HzB
  isplitl [HzS HzR]
  · isplitl [HzS] <;> iassumption
  isplitl [Hp] <;> iassumption

theorem owed_cases (c : Dev nD) (t : ℕ) : owedAt c t = owB c 7 ∨ owedAt c t = owR c 7 ∨ owedAt c t = 0 := by
  rcases t with _ | _ | _ | _ | t
  · exact .inl rfl
  · exact .inl rfl
  · exact .inl rfl
  · exact .inr (.inl rfl)
  · exact .inr (.inr rfl)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (owed_cases c t.val)

/-! ## The run -/

/-- A window's array after the run. -/
def finalA (c : Dev nD) (w : Fin cfg0.W) : Buf (Elt F) ((cfg0.win w).arr.view.loc (c : Thread nD τ)) := (dats m ρ 0 c).arrAt w cfg0.N

def arraysFinal : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the eight devices' programs
    ends, with every device's arrays at the computed contents and every semaphore counter at zero. -/
theorem run_main : θ_run defs (onTc (τ := τ) (main (F := F))) (s₀ m ρ) (fun r => arraysFinal m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owB d 7) (howed₀ := fun _ => rfl) (howedN := fun _ => rfl)
    (L := L) (lv := lv) (hL := L_of_ne) (hwaits := waits m ρ)
    (G := dealt m ρ) (G' := ghost m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is left as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.ArgMax

end
-- ==== Proof.Ref.lean ====
/-
# The reference run: its operations in order, and what its result holds
-/
module

public import proofs.«01_k».proof.Defs
public import Idealize.ShloMosaic.Lib.StableHlo.Run
public import Idealize.ShloMosaic.Lib.Quiescent
public import proofs.«01_k».proof.Proof.Gen.ReferenceIdeal

@[expose] public section

noncomputable section

namespace Cert.ArgMaxRef

open Idealize.ShloMosaic Idealize.ShloMosaic.TcCoe Idealize.ShloMosaic.StableHlo Idealize.SL.Sem
open Cert.ReferenceIdeal Cert.ReferenceIdeal.Gen

variable {F : FTy → Type} [FloatOps F]

/-- The index of each column's maximum, as the reference finds it: the index half of the arg-max reduction of the
    array beside its row numbers. -/
def first_ (x : FVec F S65536x1024 .bf16) : IVec S1024 32 := fun j =>
  (Host.argReduce reducer_argmax_bf16_i32 x (iotaInDim S65536x1024 32 0) (constant S_ .bf16 0xFF80#16) (constantI S_ 32 0#32)
    Cert.ReferenceIdeal.Gen.reducesTo_S65536x1024_S1024_d0 Cert.ReferenceIdeal.Gen.h_S_ j).2

/-- Each column's maximum. -/
def top (x : FVec F S65536x1024 .bf16) : FVec F S1024 .bf16 :=
  Host.reduce FloatOps.maximumf x (constant S_ .bf16 0xFF80#16) Cert.ReferenceIdeal.Gen.reducesTo_S65536x1024_S1024_d0 Cert.ReferenceIdeal.Gen.h_S_

/-- The reference's result: the row of maxima over the row of their indices. -/
def out (x : FVec F S65536x1024 .bf16) : FVec F S2x1024 .f32 :=
  concatenate S2x1024 0
    [⟨S1x1024, broadcastInDim S1x1024 ![1] Cert.ReferenceIdeal.Gen.bcast_S1024_S1x1024_1 (extf .f32 (top x) Cert.ReferenceIdeal.Gen.bitsLt_bf16_f32)⟩,
     ⟨S1x1024, broadcastInDim S1x1024 ![1] Cert.ReferenceIdeal.Gen.bcast_S1024_S1x1024_1 (sitofp .f32 (first_ x))⟩]
    Cert.ReferenceIdeal.Gen.concatenates_S1x1024_S1x1024_S2x1024_d0

abbrev ops : List (HloOp τ sig (Elt F)) :=
  [ TRef.nullary main_call0.v0 (iotaInDim S65536x1024 32 0),
    TRef.nullary main_call0.cst (constant S_ .bf16 0xFF80#16),
    TRef.nullary main_call0.c (constantI S_ 32 0#32),
    TRef.quaternary (.of main_arg0) main_call0.v0 main_call0.cst main_call0.c main_call0.v1_0 (fun x y u v j => (Host.argReduce reducer_argmax_bf16_i32 x y u v Cert.ReferenceIdeal.Gen.reducesTo_S65536x1024_S1024_d0 Cert.ReferenceIdeal.Gen.h_S_ j).1),
    TRef.quaternary (.of main_arg0) main_call0.v0 main_call0.cst main_call0.c main_call0.v1_1 (fun x y u v j => (Host.argReduce reducer_argmax_bf16_i32 x y u v Cert.ReferenceIdeal.Gen.reducesTo_S65536x1024_S1024_d0 Cert.ReferenceIdeal.Gen.h_S_ j).2),
    unary main_v0 main_v1 (sitofp .f32),
    nullary main_cst (constant S_ .bf16 0xFF80#16),
    binary main_arg0 main_cst main_v2 (fun x v => Host.reduce FloatOps.maximumf x v Cert.ReferenceIdeal.Gen.reducesTo_S65536x1024_S1024_d0 Cert.ReferenceIdeal.Gen.h_S_),
    unary main_v2 main_v3 (extf .f32 · Cert.ReferenceIdeal.Gen.bitsLt_bf16_f32),
    unary main_v3 main_v4 (broadcastInDim S1x1024 ![1] Cert.ReferenceIdeal.Gen.bcast_S1024_S1x1024_1),
    unary main_v1 main_v5 (broadcastInDim S1x1024 ![1] Cert.ReferenceIdeal.Gen.bcast_S1024_S1x1024_1),
    binary main_v4 main_v5 main_v6 (fun a b => concatenate S2x1024 0 [⟨S1x1024, a⟩, ⟨S1x1024, b⟩] Cert.ReferenceIdeal.Gen.concatenates_S1x1024_S1x1024_S2x1024_d0) ]

set_option maxRecDepth 4096 in
theorem main_eq (c : Dev nD) : main (F := F) c = seq ops := by
  simp only [main, fn_argmax.body, seq, bind_assoc, pure_bind]
  rfl

/-- All of them but the last. -/
abbrev opsA : List (HloOp τ sig (Elt F)) :=
  [ TRef.nullary main_call0.v0 (iotaInDim S65536x1024 32 0),
    TRef.nullary main_call0.cst (constant S_ .bf16 0xFF80#16),
    TRef.nullary main_call0.c (constantI S_ 32 0#32),
    TRef.quaternary (.of main_arg0) main_call0.v0 main_call0.cst main_call0.c main_call0.v1_0 (fun x y u v j => (Host.argReduce reducer_argmax_bf16_i32 x y u v Cert.ReferenceIdeal.Gen.reducesTo_S65536x1024_S1024_d0 Cert.ReferenceIdeal.Gen.h_S_ j).1),
    TRef.quaternary (.of main_arg0) main_call0.v0 main_call0.cst main_call0.c main_call0.v1_1 (fun x y u v j => (Host.argReduce reducer_argmax_bf16_i32 x y u v Cert.ReferenceIdeal.Gen.reducesTo_S65536x1024_S1024_d0 Cert.ReferenceIdeal.Gen.h_S_ j).2),
    unary main_v0 main_v1 (sitofp .f32),
    nullary main_cst (constant S_ .bf16 0xFF80#16),
    binary main_arg0 main_cst main_v2 (fun x v => Host.reduce FloatOps.maximumf x v Cert.ReferenceIdeal.Gen.reducesTo_S65536x1024_S1024_d0 Cert.ReferenceIdeal.Gen.h_S_),
    unary main_v2 main_v3 (extf .f32 · Cert.ReferenceIdeal.Gen.bitsLt_bf16_f32),
    unary main_v3 main_v4 (broadcastInDim S1x1024 ![1] Cert.ReferenceIdeal.Gen.bcast_S1024_S1x1024_1),
    unary main_v1 main_v5 (broadcastInDim S1x1024 ![1] Cert.ReferenceIdeal.Gen.bcast_S1024_S1x1024_1) ]

theorem vals_eq (V : Valuation τ sig (Elt F)) : after opsA V (main_v4 : DevRef τ sig)
    = broadcastInDim S1x1024 ![1] Cert.ReferenceIdeal.Gen.bcast_S1024_S1x1024_1 (extf .f32 (top (V (main_arg0 : DevRef τ sig))) Cert.ReferenceIdeal.Gen.bitsLt_bf16_f32) := by
  after_results_simp
  rfl

theorem idxs_eq (V : Valuation τ sig (Elt F)) : after opsA V (main_v5 : DevRef τ sig)
    = broadcastInDim S1x1024 ![1] Cert.ReferenceIdeal.Gen.bcast_S1024_S1x1024_1 (sitofp .f32 (first_ (V (main_arg0 : DevRef τ sig)))) := by
  after_results_simp
  rfl

theorem last_eq (V : Valuation τ sig (Elt F)) : after ops V (main_v6 : DevRef τ sig)
    = concatenate S2x1024 0 [⟨S1x1024, (after opsA V (main_v4 : DevRef τ sig) : FVec F S1x1024 .f32)⟩, ⟨S1x1024, (after opsA V (main_v5 : DevRef τ sig) : FVec F S1x1024 .f32)⟩]
        Cert.ReferenceIdeal.Gen.concatenates_S1x1024_S1x1024_S2x1024_d0 := by
  rfl

/-- The fold of the operations at the result. -/
theorem out_eq (V : Valuation τ sig (Elt F)) : after ops V (main_v6 : DevRef τ sig) = out (V (main_arg0 : DevRef τ sig)) := by
  rw [last_eq, vals_eq, idxs_eq]; rfl

theorem arg_eq (V : Valuation τ sig (Elt F)) : after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., unary_bufs_sub .., binary_bufs_sub ..⟩

/-- From any memory with zero counters: every execution of the reference ends, its result holding `out` of the argument,
    the argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v6) = out (m ((c.tc : Thread nD τ).loc main_arg0))
        ∧ r.2.mem ((c.tc : Thread nD τ).loc main_arg0) = m ((c.tc : Thread nD τ).loc main_arg0) :=
  (θ_run defs _ _).mono
    (fun r h c => ⟨(h c main_v6).trans (out_eq _), (h c main_arg0).trans (arg_eq _)⟩)
    (run_seq scopedRefs_eq scopedSems_eq defs main (fun _ => ops) main_eq (fun _ => ops_sub) m ρ)

end Cert.ArgMaxRef

end
-- ==== Proof.Frames.lean ====
/-
# The frames: the kernel, its idealization and the reference run, keep their argument and leave the machine quiet
-/
module

public import proofs.«01_k».proof.Defs
public import proofs.«01_k».proof.Proof.Launch
public import proofs.«01_k».proof.Proof.Ref
public import proofs.«01_k».proof.Proof.Gen.Kernel

@[expose] public section

noncomputable section

namespace Cert.Frames

open Idealize.ShloMosaic Idealize.ShloMosaic.TcCoe Idealize.SL.Sem

/-! ## The kernel and its idealization are one text -/

theorem same_part15 : @Kernel.k0_part15 Bits _ _ = @KernelIdeal.k0_part15 Bits _ _ := by
  delta Kernel.k0_part15 KernelIdeal.k0_part15
  rfl
theorem same_part16 : @Kernel.k0_part16 Bits _ _ = @KernelIdeal.k0_part16 Bits _ _ := by
  delta Kernel.k0_part16 KernelIdeal.k0_part16
  simp only [same_part15]
  rfl
theorem same_body : @Kernel.cc0_body Bits _ _ = @KernelIdeal.cc0_body Bits _ _ := by
  delta Kernel.cc0_body KernelIdeal.cc0_body
  simp only [same_part15, same_part16]
  rfl
theorem same_defs₀ : Kernel.defs₀ (F := Bits) = KernelIdeal.defs₀ (F := Bits) := by
  delta Kernel.defs₀ KernelIdeal.defs₀
  simp only [same_body]
  refine congrArg (Defs.onTc (nD := Kernel.nD) (τ := Kernel.τ) (sig := Kernel.sig) (Val := Elt Bits) (Λ := Kernel.Λ₀)) (funext fun ℓ => funext fun x => ?_)
  obtain ⟨ℓ, hℓ⟩ := ℓ
  obtain rfl : ℓ = 0 := by exact Nat.lt_one_iff.mp hℓ
  obtain ⟨t, s⟩ := x
  rfl
theorem same_defs : Kernel.defs (F := Bits) = KernelIdeal.defs (F := Bits) := by
  delta Kernel.defs KernelIdeal.defs
  simp only [same_defs₀]
  rfl

/-! ## The frames -/

theorem frame_ideal : Cert.quiescent_KernelIdeal := fun m ρ _ =>
  (θ_run Cert.KernelIdeal.defs _ _).mono
    (fun _ h => ⟨fun c => (h.1 c (0 : Fin 2)).trans (Cert.ArgMax.finalA_x m ρ c), h.2⟩)
    (Cert.ArgMax.run_main (F := Ideal) m ρ)

theorem frame_kernel : Cert.quiescent_Kernel := by
  intro m ρ _
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
    (θ_run Cert.KernelIdeal.defs _ _).mono
      (fun _ h => ⟨fun c => (h.1 c (0 : Fin 2)).trans (Cert.ArgMax.finalA_x m ρ c), h.2⟩)
      (Cert.ArgMax.run_main (F := Bits) m ρ)
  rw [same_defs]
  exact h

theorem frame_reference : Cert.quiescent_ReferenceIdeal := fun m ρ _ =>
  (θ_run Cert.ReferenceIdeal.defs _ _).mono
    (fun r h => ⟨fun c => (h c).2, sem_eq_zero_of_no_sems rfl r.2⟩)
    (Cert.ArgMaxRef.run_main (F := Ideal) m ρ)

end Cert.Frames

end
-- ==== Proof.Best.lean ====
/-
# The first place a column's maximum is found

A column is a function of the row number. `IsBest x S i` says that row `i` of the set `S` holds the largest value `x` takes
on `S` and that no earlier row of `S` holds it; `Holds x S p` says that the pair `p` is that value and that row number.
Two such pairs over one set are equal, and merging pairs over two sets gives one over their union. Then the folds the two
programs find such pairs with: the maximum, the least of a list of words, and the arg-max reduction.
-/
module

public import proofs.«01_k».proof.Proof.Ref
public import Idealize.ShloMosaic.PureOps.Reduce
public import Idealize.ShloMosaic.PureOps.Ideal.Laws

@[expose] public section

noncomputable section

namespace Cert.Best

open Idealize.ShloMosaic

/-- Row `i` of `S` holds `x`'s maximum on `S`, and no row of `S` before it does. -/
structure IsBest (x : ℕ → EReal) (S : ℕ → Prop) (i : ℕ) : Prop where
  mem : S i
  top : ∀ k, S k → x k ≤ x i
  least : ∀ k, S k → k < i → x k ≠ x i

/-- A row number as an extended real. -/
def num (i : ℕ) : EReal := ((i : ℝ) : EReal)

theorem num_lt {i j : ℕ} : num i < num j ↔ i < j := by
  unfold num; rw [EReal.coe_lt_coe_iff, Nat.cast_lt]

/-- The pair `p` is the maximum of `x` on `S` and the first row of `S` that holds it. -/
def Holds (x : ℕ → EReal) (S : ℕ → Prop) (p : EReal × EReal) : Prop := ∃ i, IsBest x S i ∧ p.1 = x i ∧ p.2 = num i

theorem IsBest.unique {x : ℕ → EReal} {S : ℕ → Prop} {i j : ℕ} (hi : IsBest x S i) (hj : IsBest x S j) : i = j := by
  have e : x i = x j := le_antisymm (hj.top i hi.mem) (hi.top j hj.mem)
  rcases lt_trichotomy i j with h | h | h
  · exact absurd e (hj.least i hi.mem h)
  · exact h
  · exact absurd e.symm (hi.least j hj.mem h)

theorem Holds.unique {x : ℕ → EReal} {S : ℕ → Prop} {p q : EReal × EReal} (hp : Holds x S p) (hq : Holds x S q) : p = q := by
  obtain ⟨i, hi, h1, h2⟩ := hp
  obtain ⟨j, hj, h3, h4⟩ := hq
  obtain rfl := hi.unique hj
  exact Prod.ext (h1.trans h3.symm) (h2.trans h4.symm)

theorem Holds.congr {x : ℕ → EReal} {S T : ℕ → Prop} {p : EReal × EReal} (hp : Holds x S p) (h : ∀ k, S k ↔ T k) : Holds x T p := by
  obtain rfl : S = T := funext fun k => propext (h k)
  exact hp

/-- Merging: the greater value, and at equal values the smaller row number. -/
theorem Holds.merge {x : ℕ → EReal} {S T : ℕ → Prop} {p q : EReal × EReal} (hp : Holds x S p) (hq : Holds x T q) :
    Holds x (fun k => S k ∨ T k) (if p.1 < q.1 ∨ (q.1 = p.1 ∧ q.2 < p.2) then q else p) := by
  obtain ⟨i, hi, h1, h2⟩ := hp
  obtain ⟨j, hj, h3, h4⟩ := hq
  by_cases h : p.1 < q.1 ∨ (q.1 = p.1 ∧ q.2 < p.2)
  · rw [if_pos h]
    rw [h1, h2, h3, h4, num_lt] at h
    have hle : x i ≤ x j := h.elim le_of_lt fun e => e.1.ge
    refine ⟨j, ⟨.inr hj.mem, fun k hk => hk.elim (fun hS => (hi.top k hS).trans hle) (hj.top k), fun k hk hlt => ?_⟩, h3, h4⟩
    rcases hk with hS | hT
    · intro e
      rcases h with h | ⟨e', h'⟩
      · exact absurd (hi.top k hS) (by rw [e]; exact not_le.2 h)
      · exact hi.least k hS (hlt.trans h') (e.trans e')
    · exact hj.least k hT hlt
  · rw [if_neg h]
    rw [h1, h2, h3, h4, num_lt] at h
    push Not at h
    have hle : x j ≤ x i := h.1
    refine ⟨i, ⟨.inl hi.mem, fun k hk => hk.elim (hi.top k) (fun hT => (hj.top k hT).trans hle), fun k hk hlt => ?_⟩, h1, h2⟩
    rcases hk with hS | hT
    · exact hi.least k hS hlt
    · intro e
      have e' : x j = x i := le_antisymm hle (e ▸ hj.top k hT)
      exact hj.least k hT (hlt.trans_le (h.2 e')) (e.trans e'.symm)

/-- Merging when the second set lies after the first: the first pair stays unless the second value is strictly greater. -/
theorem Holds.extend {x : ℕ → EReal} {S T : ℕ → Prop} {p q : EReal × EReal} (hp : Holds x S p) (hq : Holds x T q)
    (hST : ∀ i j, S i → T j → i < j) : Holds x (fun k => S k ∨ T k) (if p.1 < q.1 then q else p) := by
  have h := hp.merge hq
  obtain ⟨i, hi, -, h2⟩ := hp
  obtain ⟨j, hj, -, h4⟩ := hq
  have hn : ¬ q.2 < p.2 := by rw [h2, h4, num_lt]; exact (hST i j hi.mem hj.mem).not_gt
  simpa [hn] using h

/-! ## A reduction down a column -/

section Rows

variable {α β : Type} {n w : ℕ} {t u : Shape}

/-- Column `c` of a matrix, as a function of the row number (`e` past the last row). -/
def column (x : (⟨2, ![n, w]⟩ : Shape).Idx → α) (e : α) (c : Fin w) (r : ℕ) : α :=
  if h : r < n then x (Shape.pair (d := ![n, w]) ⟨r, h⟩ c) else e

theorem column_lt (x : (⟨2, ![n, w]⟩ : Shape).Idx → α) (e : α) (c : Fin w) {r : ℕ} (h : r < n) :
    column x e c r = x (Shape.pair (d := ![n, w]) ⟨r, h⟩ c) := dif_pos h

theorem foldl_range (g : β → α → β) (f : Fin n → α) (f' : ℕ → α) (hf : ∀ r, f r = f' r.val) (b : β) :
    (List.finRange n).foldl (fun acc r => g acc (f r)) b = (List.range n).foldl (fun acc r => g acc (f' r)) b := by
  have hg : (fun (acc : β) (r : Fin n) => g acc (f r)) = fun acc r => g acc (f' r.val) := by
    funext acc r; rw [hf]
  rw [hg, ← List.map_coe_finRange_eq_range, List.foldl_map]

theorem reduceFold_column (h : (⟨2, ![n, w]⟩ : Shape).Reduces [0] t) (f : α → α → α) (init : α)
    (x : (⟨2, ![n, w]⟩ : Shape).Idx → α) (e : α) (j : t.Idx) :
    reduceFold h f init x j = (List.range n).foldl (fun acc r => f acc (column x e (h.col j) r)) init := by
  rw [reduceFold_rows]
  exact foldl_range f _ _ (fun r => (column_lt x e _ r.isLt).symm) init

theorem reduce_column (h' : (⟨2, ![n, w]⟩ : Shape).ReducesTo [0] t) (h : (⟨2, ![n, w]⟩ : Shape).Reduces [0] t) (hu : 0 < u.numel)
    (f : α → α → α) (init : u.Idx → α) (x : (⟨2, ![n, w]⟩ : Shape).Idx → α) (e a : α) (ha : init (Shape.Idx.first hu) = a) (j : t.Idx) :
    Host.reduce f x init h' hu j = (List.range n).foldl (fun acc r => f acc (column x e (h.col j) r)) a :=
  ha ▸ reduceFold_column h f _ x e j

theorem reduce2_column (h' : (⟨2, ![n, w]⟩ : Shape).ReducesTo [0] t) (h : (⟨2, ![n, w]⟩ : Shape).Reduces [0] t) (hu : 0 < u.numel)
    (f : α × β → α × β → α × β) (ix : u.Idx → α) (iy : u.Idx → β) (x : (⟨2, ![n, w]⟩ : Shape).Idx → α) (y : (⟨2, ![n, w]⟩ : Shape).Idx → β)
    (e : α) (g : ℕ → β) (a : α) (b : β) (ha : ix (Shape.Idx.first hu) = a) (hb : iy (Shape.Idx.first hu) = b) (hy : ∀ (r : Fin n) c, y (Shape.pair (d := ![n, w]) r c) = g r.val) (j : t.Idx) :
    Host.reduce2 f x y ix iy h' hu j
      = (List.range n).foldl (fun acc r => f acc (column x e (h.col j) r, g r)) (a, b) := by
  subst ha hb
  have hh : Host.reduce2 f x y ix iy h' hu j
      = reduceFold h f (ix (Shape.Idx.first hu), iy (Shape.Idx.first hu)) (fun i => (x i, y i)) j := rfl
  rw [hh, reduceFold_rows]
  exact foldl_range f _ (fun r => (column x e (h.col j) r, g r)) (fun r => Prod.ext (column_lt x e _ r.isLt).symm (hy r _)) _

end Rows

/-! ## The maximum of a list -/

theorem max_fold {ι : Type} (f : ι → EReal) : ∀ (l : List ι) (e : EReal),
    e ≤ l.foldl (fun acc r => max acc (f r)) e ∧ (∀ r ∈ l, f r ≤ l.foldl (fun acc r => max acc (f r)) e)
      ∧ (l.foldl (fun acc r => max acc (f r)) e = e ∨ ∃ r ∈ l, l.foldl (fun acc r => max acc (f r)) e = f r)
  | [], e => ⟨le_refl _, by simp, .inl rfl⟩
  | a :: l, e => by
    obtain ⟨h1, h2, h3⟩ := max_fold f l (max e (f a))
    refine ⟨(le_max_left _ _).trans h1, fun r hr => ?_, ?_⟩
    · rcases List.mem_cons.1 hr with rfl | hr
      · exact (le_max_right _ _).trans h1
      · exact h2 r hr
    · rcases h3 with h3 | ⟨r, hr, h3⟩
      · rcases max_cases e (f a) with ⟨h, -⟩ | ⟨h, -⟩
        · exact .inl (by rw [List.foldl_cons, h3, h])
        · exact .inr ⟨a, List.mem_cons_self, by rw [List.foldl_cons, h3, h]⟩
      · exact .inr ⟨r, List.mem_cons_of_mem _ hr, h3⟩

/-- From the bottom, over at least one row: the fold is an upper bound and one of the values. -/
theorem max_rows {n : ℕ} (hn : 0 < n) (f : ℕ → EReal) :
    (∀ r, r < n → f r ≤ (List.range n).foldl (fun acc r => max acc (f r)) ⊥)
      ∧ ∃ r, r < n ∧ (List.range n).foldl (fun acc r => max acc (f r)) ⊥ = f r := by
  obtain ⟨-, h2, h3⟩ := max_fold f (List.range n) ⊥
  refine ⟨fun r hr => h2 r (List.mem_range.2 hr), ?_⟩
  rcases h3 with h3 | ⟨r, hr, h3⟩
  · exact ⟨0, hn, by rw [h3]; exact (le_bot_iff.1 (h3 ▸ h2 0 (List.mem_range.2 hn))).symm⟩
  · exact ⟨r, List.mem_range.1 hr, h3⟩

/-! ## The least of a list of words -/

theorem minsi_toInt (a b : BitVec 32) : (IntOp.minsi a b).toInt = min a.toInt b.toInt := by
  unfold IntOp.minsi
  rw [BitVec.slt_eq_decide]
  by_cases h : a.toInt < b.toInt
  · rw [if_pos (by simpa using h), min_eq_left h.le]
  · rw [if_neg (by simpa using h), min_eq_right (not_lt.1 h)]

theorem min_fold {ι : Type} (f : ι → BitVec 32) : ∀ (l : List ι) (e : BitVec 32),
    (l.foldl (fun acc r => IntOp.minsi acc (f r)) e).toInt ≤ e.toInt
      ∧ (∀ r ∈ l, (l.foldl (fun acc r => IntOp.minsi acc (f r)) e).toInt ≤ (f r).toInt)
      ∧ (l.foldl (fun acc r => IntOp.minsi acc (f r)) e = e ∨ ∃ r ∈ l, l.foldl (fun acc r => IntOp.minsi acc (f r)) e = f r)
  | [], e => ⟨le_refl _, by simp, .inl rfl⟩
  | a :: l, e => by
    obtain ⟨h1, h2, h3⟩ := min_fold f l (IntOp.minsi e (f a))
    have hm := minsi_toInt e (f a)
    refine ⟨h1.trans (by rw [hm]; exact min_le_left _ _), fun r hr => ?_, ?_⟩
    · rcases List.mem_cons.1 hr with rfl | hr
      · exact h1.trans (by rw [hm]; exact min_le_right _ _)
      · exact h2 r hr
    · rcases h3 with h3 | ⟨r, hr, h3⟩
      · have hc : IntOp.minsi e (f a) = e ∨ IntOp.minsi e (f a) = f a := by unfold IntOp.minsi; split <;> simp
        rcases hc with h | h
        · exact .inl (by rw [List.foldl_cons, h3, h])
        · exact .inr ⟨a, List.mem_cons_self, by rw [List.foldl_cons, h3, h]⟩
      · exact .inr ⟨r, List.mem_cons_of_mem _ hr, h3⟩

theorem toInt_ofNat {r : ℕ} (h : r < 65536) : (BitVec.ofNat 32 r).toInt = (r : ℤ) := by
  rw [BitVec.toInt_ofNat', Int.bmod_def]
  split <;> omega

/-- Of `n` rows, keep the row number where the value equals `M` and 2048 elsewhere: the least is the first row that
    holds `M`, when one does. -/
theorem min_rows {n : ℕ} (hn : n ≤ 2048) (f : ℕ → EReal) (M : EReal) (hM : ∃ r, r < n ∧ M = f r) :
    ∃ i, i < n ∧ f i = M ∧ (∀ k, k < i → f k ≠ M)
      ∧ ((List.range n).foldl (fun acc r => IntOp.minsi acc
          (Scalar.select (Ideal.cmp .oeq (f r) M) (BitVec.ofNat 32 r) 2048#32)) 2147483647#32).toInt = (i : ℤ) := by
  have hsel : ∀ r, r < n → (Scalar.select (Ideal.cmp .oeq (f r) M) (BitVec.ofNat 32 r) 2048#32).toInt = if f r = M then (r : ℤ) else 2048 := by
    intro r hr
    by_cases h : f r = M
    · rw [if_pos h, ← toInt_ofNat (show r < 65536 by omega)]
      unfold Scalar.select
      rw [if_pos (by simp [Ideal.cmp, h])]
    · rw [if_neg h]
      unfold Scalar.select
      rw [if_neg (by simp [Ideal.cmp, h])]
      decide
  obtain ⟨-, h2, h3⟩ := min_fold (fun r : ℕ => Scalar.select (Ideal.cmp .oeq (f r) M) (BitVec.ofNat 32 r) 2048#32)
    (List.range n) 2147483647#32
  generalize List.foldl _ _ _ = w at h2 h3 ⊢
  obtain ⟨r₀, hb, hr₀⟩ := hM
  have hle : ∀ r, r < n → f r = M → w.toInt ≤ (r : ℤ) := fun r hr e => by
    have := h2 r (List.mem_range.2 hr)
    rwa [hsel r hr, if_pos e] at this
  have hw := hle r₀ hb hr₀.symm
  rcases h3 with h3 | ⟨i, hi', h3⟩
  · rw [h3] at hw
    exact absurd hw (by have e : (2147483647#32 : BitVec 32).toInt = 2147483647 := by decide
                        rw [e]; omega)
  · have hin := List.mem_range.1 hi'
    have hi : w.toInt = if f i = M then (i : ℤ) else 2048 := by rw [h3, hsel i hin]
    by_cases h : f i = M
    · rw [if_pos h] at hi
      refine ⟨i, hin, h, fun k hk e => ?_, hi⟩
      have := hle k (by omega) e
      omega
    · rw [if_neg h] at hi; omega

/-! ## The arg-max reduction down a column -/

/-- One step of the reducer at extended reals: the greater value wins, at equal values the smaller word. -/
theorem reducer_eq (a b : Ideal .bf16 × BitVec 32) :
    Cert.ReferenceIdeal.reducer_argmax_bf16_i32 (F := Ideal) a b
      = ((if (b.1 : EReal) < a.1 then a.1 else b.1), if (b.1 : EReal) < a.1 ∨ ((a.1 : EReal) = b.1 ∧ a.2.toInt < b.2.toInt) then a.2 else b.2) := by
  unfold Cert.ReferenceIdeal.reducer_argmax_bf16_i32
  simp only [Ideal.cmpf_def, Ideal.cmp, IntOp.ori, IntOp.andi, IntOp.cmpi, Scalar.select, BitVec.slt_eq_decide]
  by_cases h1 : (b.1 : EReal) < a.1 <;> by_cases h2 : (a.1 : EReal) = b.1 <;> by_cases h3 : a.2.toInt < b.2.toInt <;>
    simp [h1, h2, h3]

/-- The pair a fold of the reducer has reached after rows `0 … n - 1`: the initial pair at none, else the maximum and the
    first row that holds it. -/
def After (x : ℕ → EReal) (n : ℕ) (s : EReal × BitVec 32) : Prop :=
  (n = 0 ∧ s = (⊥, 0#32)) ∨ ∃ i, IsBest x (· < n) i ∧ s = (x i, BitVec.ofNat 32 i)

theorem After.step {x : ℕ → EReal} {n : ℕ} {s : EReal × BitVec 32} (hn : n < 65536) (h : After x n s) :
    After x (n + 1) (Cert.ReferenceIdeal.reducer_argmax_bf16_i32 (F := Ideal) s (x n, BitVec.ofNat 32 n)) := by
  rw [reducer_eq]
  refine .inr ?_
  rcases h with ⟨rfl, rfl⟩ | ⟨i, hi, rfl⟩
  · refine ⟨0, ⟨Nat.zero_lt_one, fun k hk => ?_, fun k _ hk => absurd hk (Nat.not_lt_zero _)⟩, ?_⟩
    · obtain rfl : k = 0 := by omega
      exact le_refl _
    · have h0 : ¬ x 0 < (⊥ : EReal) := not_lt_bot
      simp [h0]
  · have him : i < n := hi.mem
    rw [toInt_ofNat hn, toInt_ofNat (show i < 65536 by omega)]
    by_cases h1 : x n < x i
    · refine ⟨i, ⟨by show i < n + 1; omega, fun k hk => ?_, fun k _ hlt => hi.least k (by show k < n; omega) hlt⟩, by simp [h1]⟩
      rcases Nat.lt_succ_iff_lt_or_eq.1 hk with h | rfl
      · exact hi.top k h
      · exact h1.le
    · by_cases h2 : x i = x n
      · refine ⟨i, ⟨by show i < n + 1; omega, fun k hk => ?_, fun k _ hlt => hi.least k (by show k < n; omega) hlt⟩, ?_⟩
        · rcases Nat.lt_succ_iff_lt_or_eq.1 hk with h | rfl
          · exact hi.top k h
          · exact h2.ge
        · have hlt : (i : ℤ) < (n : ℤ) := by omega
          simp [h2, him]
      · have hgt : x i < x n := lt_of_le_of_ne (not_lt.1 h1) h2
        refine ⟨n, ⟨Nat.lt_succ_self n, fun k hk => ?_, fun k _ hlt => ?_⟩, by simp [h1, h2]⟩
        · rcases Nat.lt_succ_iff_lt_or_eq.1 hk with h | rfl
          · exact (hi.top k h).trans hgt.le
          · exact le_refl _
        · exact ((hi.top k hlt).trans_lt hgt).ne

theorem foldl_after {x : ℕ → EReal} : ∀ n, n ≤ 65536 →
    After x n ((List.range n).foldl (fun s r => Cert.ReferenceIdeal.reducer_argmax_bf16_i32 (F := Ideal) s (x r, BitVec.ofNat 32 r)) (⊥, 0#32))
  | 0, _ => .inl ⟨rfl, rfl⟩
  | n + 1, h => by
    rw [List.range_succ, List.foldl_append]
    exact (foldl_after n (by omega)).step (by omega)

end Cert.Best

end
-- ==== Proof.Column.lean ====
/-
# What a device computes, column by column

At extended reals, the pair a device reaches after its four blocks holds, in each column, the maximum of the device's own
rows and the first row that holds it.

-/
module

public import proofs.«01_k».proof.Proof.Launch
public import proofs.«01_k».proof.Proof.Best
public import Idealize.ShloMosaic.Lib.Pipeline.Value

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Best

local notation "ℐ" => Idealize.ShloMosaic.Ideal

def ix1 (l : Fin 1024) : S1024.Idx := fun | 0 => l
def ix4 (l : Fin 1024) : S1x1x1x1024.Idx := fun | 0 => (0 : Fin 1) | 1 => (0 : Fin 1) | 2 => (0 : Fin 1) | 3 => l

/-! ## The shape casts, read at a column -/

section Casts
variable {α : Type}

theorem cast_1_12 (v : S1024.Idx → α) (h) (l : Fin 1024) : shapeCast S1x1024 v h (ix12 l) = v (ix1 l) :=
  shapeCast_apply v h _ _ (by
    rw [Shape.rowMajor_val_two, Shape.rowMajor_val_one]
    show l.val = 0 * 1024 + l.val
    omega)
theorem cast_12_3 (v : S1x1024.Idx → α) (h) (l : Fin 1024) : shapeCast S1x1x1024 v h (ix3 l) = v (ix12 l) :=
  shapeCast_apply v h _ _ (by
    rw [Shape.rowMajor_val_two, Shape.rowMajor_val_three]
    show 0 * 1024 + l.val = (0 * 1 + 0) * 1024 + l.val
    omega)
theorem cast_3_12 (v : S1x1x1024.Idx → α) (h) (l : Fin 1024) : shapeCast S1x1024 v h (ix12 l) = v (ix3 l) :=
  shapeCast_apply v h _ _ (by
    rw [Shape.rowMajor_val_two, Shape.rowMajor_val_three]
    show (0 * 1 + 0) * 1024 + l.val = 0 * 1024 + l.val
    omega)
theorem cast_4_12 (v : S1x1x1x1024.Idx → α) (h) (l : Fin 1024) : shapeCast S1x1024 v h (ix12 l) = v (ix4 l) :=
  shapeCast_apply v h _ _ (by
    rw [Shape.rowMajor_val_two, Shape.rowMajor_val_four]
    show ((0 * 1 + 0) * 1 + 0) * 1024 + l.val = 0 * 1024 + l.val
    omega)
theorem cast_same (v : S2048x1024.Idx → α) (h) : shapeCast S2048x1024 v h = v := funext fun j => shapeCast_apply v h j j rfl

end Casts

/-! ## One block -/

theorem bits_bot : Ideal.ofBits .bf16 0xFF80#16 = ⊥ := by simp [Ideal.ofBits, Ideal.ieee]
theorem bits_8192 : Ideal.ofBits .f32 0x46000000#32 = ((8192 : ℝ) : EReal) := by
  have e1 : ((0x46000000#32 : BitVec 32).extractLsb' (8 + 23) 1 == 1#1) = false := by decide
  have e2 : ((0x46000000#32 : BitVec 32).extractLsb' 23 8).toNat = 140 := by decide
  have e3 : ((0x46000000#32 : BitVec 32).extractLsb' 0 23).toNat = 0 := by decide
  simp only [Ideal.ofBits, Ideal.ieee, e1, e2, e3]
  norm_num
theorem bits_2048 : Ideal.ofBits .f32 0x45000000#32 = ((2048 : ℝ) : EReal) := by
  have e1 : ((0x45000000#32 : BitVec 32).extractLsb' (8 + 23) 1 == 1#1) = false := by decide
  have e2 : ((0x45000000#32 : BitVec 32).extractLsb' 23 8).toNat = 138 := by decide
  have e3 : ((0x45000000#32 : BitVec 32).extractLsb' 0 23).toNat = 0 := by decide
  simp only [Ideal.ofBits, Ideal.ieee, e1, e2, e3]
  norm_num

theorem reds_col (l : Fin 1024) : reduces_S2048x1024_S1024.col (ix1 l) = l := Fin.ext rfl

theorem pay38_eq (x : Vec ℐ S2048x1024 .bf16) : k0_pay38 x = x := cast_same x _

/-- The block's maximum in column `l`. -/
def bmax (x : Vec ℐ S2048x1024 .bf16) (l : Fin 1024) : EReal :=
  (List.range 2048).foldl (fun acc r => max acc (column x (⊥ : EReal) l r)) ⊥
/-- The word of the first row of the block that holds it. -/
def bfirst (x : Vec ℐ S2048x1024 .bf16) (l : Fin 1024) : BitVec 32 :=
  (List.range 2048).foldl (fun acc r => IntOp.minsi acc
    (Scalar.select (Ideal.cmp .oeq (column x (⊥ : EReal) l r) (bmax x l)) (BitVec.ofNat 32 r) 2048#32)) 2147483647#32

/-- A maximum down the columns, at a column. -/
theorem max_column {n w : ℕ} {t : Shape} (h : (⟨2, ![n, w]⟩ : Shape).Reduces [0] t) (x : FVec ℐ ⟨2, ![n, w]⟩ .bf16) (hφ) (hacc) (j : t.Idx) :
    multiReduction .maximumf [0] t x 0xFF80#16 h hφ hacc j
      = (List.range n).foldl (fun acc r => max acc (column x (⊥ : EReal) (h.col j) r)) ⊥ := by
  refine (congrFun (multiReduction_maximumf_eq_reduceFold (F := ℐ) x 0xFF80#16 h hφ hacc) j).trans ?_
  refine (reduceFold_column h _ _ x (⊥ : EReal) j).trans ?_
  have hb : (FloatOps.ofBits .bf16 0xFF80#16 : ℐ .bf16) = (⊥ : EReal) := bits_bot
  rw [hb]
  rfl

theorem pay39_at (x : Vec ℐ S2048x1024 .bf16) (l : Fin 1024) : k0_pay39 x (ix12 l) = bmax x l := by
  have h := max_column (n := 2048) (w := 1024) reduces_S2048x1024_S1024 x (.inr rfl) rfl (ix1 l)
  rw [reds_col] at h
  unfold k0_pay39 bmax
  rw [cast_1_12, pay38_eq]
  exact h

theorem foldl_congr_range {β : Type} (n : ℕ) (g g' : β → ℕ → β) (h : ∀ b r, r < n → g b r = g' b r) (b : β) :
    (List.range n).foldl g b = (List.range n).foldl g' b := by
  induction n with
  | zero => rfl
  | succ n ih =>
    rw [List.range_succ, List.foldl_append, List.foldl_append, ih fun b r hr => h b r (by omega)]
    exact h _ n (Nat.lt_succ_self n)

theorem first_at (x : Vec ℐ S2048x1024 .bf16) (l : Fin 1024) :
    multiReductionI .minsi [0] S1024
      (select (cmpf .oeq (k0_pay38 x) (broadcastTo S2048x1024 (k0_pay39 x) broadcasts_S1x1024_S2048x1024))
        (iota .tc S2048x1024 32 [0] iota_S2048x1024_d0_w32) (broadcast S2048x1024 2048#32))
      2147483647#32 reduces_S2048x1024_S1024 rfl (ix1 l) = bfirst x l := by
  refine (congrFun (multiReductionI_eq_reduceFold .minsi _ 2147483647#32 reduces_S2048x1024_S1024 rfl) (ix1 l)).trans ?_
  rw [reduceFold_column _ _ _ _ (2048#32), reds_col, pay38_eq]
  unfold bfirst
  refine foldl_congr_range _ _ _ (fun b r hr => ?_) _
  rw [column_lt _ _ _ hr, column_lt _ _ _ hr]
  have hb : broadcastTo S2048x1024 (k0_pay39 x) broadcasts_S1x1024_S2048x1024 (Shape.pair (d := ![2048, 1024]) ⟨r, hr⟩ l) = bmax x l :=
    (broadcastTo_apply _ _ _ (ix12 l) (by intro a; fin_cases a <;> rfl)).trans (pay39_at x l)
  show IntOp.minsi b (Scalar.select (Ideal.cmp .oeq (x _) (broadcastTo S2048x1024 (k0_pay39 x) broadcasts_S1x1024_S2048x1024 _))
    (BitVec.ofNat 32 (0 * 2048 + r)) 2048#32) = _
  rw [hb, Nat.zero_mul, Nat.zero_add]

theorem dev_word (c : Dev nD) : (Scalar.remsi (Scalar.divsi (Dev.word c) 1#32) 8#32).toInt = (c.val : ℤ) := by revert c; decide

theorem pay40_at (t : Fin cfg0.N) (c : Dev nD) (x : Vec ℐ S2048x1024 .bf16) (l : Fin 1024) :
    k0_pay40 (F := ℐ) (grid0.coords t) c x (ix12 l)
      = (((bfirst x l).toInt : ℝ) : EReal) + (((c.val : ℝ) : EReal) * ((8192 : ℝ) : EReal) + ((t.val : ℝ) : EReal) * ((2048 : ℝ) : EReal)) := by
  have hw : (BitVec.ofNat 32 ((grid0.coords t) 1).val).toInt = (t.val : ℤ) := by
    rcases fin_N0 t with rfl | rfl | rfl | rfl <;> decide
  have h1 : k0_pay40 (F := ℐ) (grid0.coords t) c x (ix12 l)
      = ((((shapeCast S1x1024 (multiReductionI .minsi [0] S1024
          (select (cmpf .oeq (k0_pay38 x) (broadcastTo S2048x1024 (k0_pay39 x) broadcasts_S1x1024_S2048x1024))
            (iota .tc S2048x1024 32 [0] iota_S2048x1024_d0_w32) (broadcast S2048x1024 2048#32))
          2147483647#32 reduces_S2048x1024_S1024 rfl) shapeCasts_S1024_S1x1024 (ix12 l)).toInt : ℝ)) : EReal)
        + (((((Scalar.remsi (Scalar.divsi (Dev.word c) 1#32) 8#32).toInt : ℝ)) : EReal) * Ideal.ofBits .f32 0x46000000#32
          + ((((BitVec.ofNat 32 ((grid0.coords t) 1).val).toInt : ℝ)) : EReal) * Ideal.ofBits .f32 0x45000000#32) := rfl
  rw [h1, cast_1_12, first_at, bits_8192, bits_2048, dev_word, hw, Int.cast_natCast, Int.cast_natCast]

/-- The rows of block `t` of device `c`, in the whole array. -/
def rows (c : Dev nD) (t : ℕ) (k : ℕ) : Prop := 8192 * c.val + 2048 * t ≤ k ∧ k < 8192 * c.val + 2048 * (t + 1)

/-- What a block contributes, read at a column. -/
theorem blk_holds (y : ℕ → EReal) (t : Fin cfg0.N) (c : Dev nD) (x : Vec ℐ S2048x1024 .bf16) (l : Fin 1024)
    (hx : ∀ r, r < 2048 → column x (⊥ : EReal) l r = y (8192 * c.val + 2048 * t.val + r)) :
    Holds y (rows c t.val) (k0_pay39 x (ix12 l), k0_pay40 (F := ℐ) (grid0.coords t) c x (ix12 l)) := by
  rw [pay39_at, pay40_at]
  obtain ⟨hub, hat⟩ := max_rows (n := 2048) (by decide) (column x (⊥ : EReal) l)
  change (∀ r, r < 2048 → _ ≤ bmax x l) at hub
  change ∃ r, r < 2048 ∧ bmax x l = _ at hat
  obtain ⟨i, hi, he, hlt, hw⟩ := min_rows (n := 2048) (le_refl _) (column x (⊥ : EReal) l) (bmax x l) hat
  change (bfirst x l).toInt = _ at hw
  generalize bmax x l = M at hub hat he hlt hw ⊢
  generalize bfirst x l = w at hw ⊢
  refine ⟨8192 * c.val + 2048 * t.val + i, ⟨⟨by omega, by omega⟩, ?_, ?_⟩, ?_, ?_⟩
  · rintro k ⟨h1, h2⟩
    obtain ⟨r, rfl⟩ := Nat.exists_eq_add_of_le h1
    rw [← hx r (by omega), ← hx i hi, he]
    exact hub r (by omega)
  · rintro k ⟨h1, h2⟩ hk
    obtain ⟨r, rfl⟩ := Nat.exists_eq_add_of_le h1
    rw [← hx r (by omega), ← hx i hi, he]
    exact hlt r (by omega)
  · show M = _
    rw [← hx i hi, he]
  · show _ = num _
    rw [hw, num, ← EReal.coe_mul, ← EReal.coe_mul, ← EReal.coe_add, ← EReal.coe_add]
    refine congrArg Real.toEReal ?_
    push_cast
    ring

/-! ## The running pair -/

/-- A pair of rows read at a column. -/
def atc (p : Pr ℐ) (l : Fin 1024) : EReal × EReal := (p.1 (ix3 l), p.2 (ix3 l))

theorem first_atc (t : Fin cfg0.N) (c : Dev nD) (x : Vec ℐ S2048x1024 .bf16) (l : Fin 1024) :
    atc (first c t x) l = (k0_pay39 x (ix12 l), k0_pay40 (F := ℐ) (grid0.coords t) c x (ix12 l)) := by
  unfold atc first k0_pay41 k0_pay42
  generalize k0_pay39 x = T
  generalize k0_pay40 (F := ℐ) (grid0.coords t) c x = W
  exact Prod.ext (cast_12_3 _ _ l) (cast_12_3 _ _ l)

theorem next_atc (t : Fin cfg0.N) (c : Dev nD) (x : Vec ℐ S2048x1024 .bf16) (p : Pr ℐ) (l : Fin 1024) :
    atc (next c t x p) l = if (atc p l).1 < (k0_pay39 x (ix12 l) : EReal)
      then (k0_pay39 x (ix12 l), k0_pay40 (F := ℐ) (grid0.coords t) c x (ix12 l)) else atc p l := by
  have h1 : k0_pay44 x p.1 p.1 (ix3 l) = Scalar.select (Ideal.cmp .ogt (k0_pay39 x (ix12 l)) (p.1 (ix3 l))) (k0_pay39 x (ix12 l)) (p.1 (ix3 l)) := by
    unfold k0_pay44 k0_pay43
    generalize k0_pay39 x = T
    rw [cast_12_3]
    show Scalar.select (Ideal.cmp .ogt (T (ix12 l)) (shapeCast S1x1024 p.1 shapeCasts_S1x1x1024_S1x1024 (ix12 l))) (T (ix12 l))
      (shapeCast S1x1024 p.1 shapeCasts_S1x1x1024_S1x1024 (ix12 l)) = _
    rw [cast_3_12]
  have h2 : k0_pay45 (F := ℐ) (grid0.coords t) c x p.1 p.2 (ix3 l)
      = Scalar.select (Ideal.cmp .ogt (k0_pay39 x (ix12 l)) (p.1 (ix3 l))) (k0_pay40 (F := ℐ) (grid0.coords t) c x (ix12 l)) (p.2 (ix3 l)) := by
    unfold k0_pay45 k0_pay43
    generalize k0_pay39 x = T
    generalize k0_pay40 (F := ℐ) (grid0.coords t) c x = W
    rw [cast_12_3]
    show Scalar.select (Ideal.cmp .ogt (T (ix12 l)) (shapeCast S1x1024 p.1 shapeCasts_S1x1x1024_S1x1024 (ix12 l)))
      (W (ix12 l)) (shapeCast S1x1024 p.2 shapeCasts_S1x1x1024_S1x1024 (ix12 l)) = _
    rw [cast_3_12, cast_3_12]
  unfold atc next
  generalize k0_pay44 x p.1 p.1 = A at h1 ⊢
  generalize k0_pay45 (F := ℐ) (grid0.coords t) c x p.1 p.2 = B at h2 ⊢
  generalize k0_pay39 x (ix12 l) = a at h1 h2 ⊢
  generalize k0_pay40 (F := ℐ) (grid0.coords t) c x (ix12 l) = b at h2 ⊢
  show (A (ix3 l), B (ix3 l)) = if (p.1 (ix3 l) : EReal) < a then (a, b) else (p.1 (ix3 l), p.2 (ix3 l))
  rw [h1, h2]
  generalize p.1 (ix3 l) = a'
  generalize p.2 (ix3 l) = b'
  unfold Scalar.select
  simp only [Ideal.cmp]
  by_cases h : (a' : EReal) < a <;> simp [h]

/-- What a block contributes: its maximum and the first row of it that holds it, in column `l`. -/
@[irreducible] def blk (t : Fin cfg0.N) (c : Dev nD) (x : Vec ℐ S2048x1024 .bf16) (l : Fin 1024) : EReal × EReal :=
  (k0_pay39 x (ix12 l), k0_pay40 (F := ℐ) (grid0.coords t) c x (ix12 l))

theorem blk_holds' (y : ℕ → EReal) (t : Fin cfg0.N) (c : Dev nD) (x : Vec ℐ S2048x1024 .bf16) (l : Fin 1024)
    (hx : ∀ r, r < 2048 → column x (⊥ : EReal) l r = y (8192 * c.val + 2048 * t.val + r)) :
    Holds y (rows c t.val) (blk t c x l) := by
  unfold blk; exact blk_holds y t c x l hx
theorem first_blk (t : Fin cfg0.N) (c : Dev nD) (x : Vec ℐ S2048x1024 .bf16) (l : Fin 1024) : atc (first c t x) l = blk t c x l := by
  unfold blk; exact first_atc t c x l
theorem next_blk (t : Fin cfg0.N) (c : Dev nD) (x : Vec ℐ S2048x1024 .bf16) (p : Pr ℐ) (l : Fin 1024) :
    atc (next c t x p) l = if (atc p l).1 < (blk t c x l).1 then blk t c x l else atc p l := by
  have h := next_atc t c x p l
  unfold blk
  generalize k0_pay39 x (ix12 l) = a at h ⊢
  generalize k0_pay40 (F := ℐ) (grid0.coords t) c x (ix12 l) = b at h ⊢
  exact h

section Device
variable (m : (ℓ : Loc nD τ sig) → Buf (Elt ℐ) ℓ) (ρ : Dev nD → PrngReg)

/-- After its four blocks a device holds the maximum of its own rows and the first of them that holds it. -/
theorem pr3_holds (y : ℕ → EReal) (c : Dev nD) (l : Fin 1024)
    (hx : ∀ (t : Fin cfg0.N) (r : ℕ), r < 2048 → column (xblk m ρ c t) (⊥ : EReal) l r = y (8192 * c.val + 2048 * t.val + r)) :
    Holds y (fun k => 8192 * c.val ≤ k ∧ k < 8192 * c.val + 8192) (atc (pr3 m ρ c) l) := by
  have b (t : Fin cfg0.N) := blk_holds' y t c (xblk m ρ c t) l (hx t)
  have h0 : Holds y (rows c 0) (atc (pr0 m ρ c) l) := by unfold pr0; rw [first_blk]; exact b t0_0
  have h1 : Holds y (fun k => rows c 0 k ∨ rows c 1 k) (atc (pr1 m ρ c) l) := by
    unfold pr1; rw [next_blk]
    exact h0.extend (b t0_1) (fun i j hi hj => by have := hi.2; have : _ ≤ j := hj.1; change _ + 2048 * 1 ≤ j at this; omega)
  have h2 : Holds y (fun k => (rows c 0 k ∨ rows c 1 k) ∨ rows c 2 k) (atc (pr2 m ρ c) l) := by
    unfold pr2; rw [next_blk]
    exact h1.extend (b t0_2) (fun i j hi hj => by
      have : _ ≤ j := hj.1; change _ + 2048 * 2 ≤ j at this
      rcases hi with hi | hi <;> have := hi.2 <;> omega)
  have h3 : Holds y (fun k => ((rows c 0 k ∨ rows c 1 k) ∨ rows c 2 k) ∨ rows c 3 k) (atc (pr3 m ρ c) l) := by
    unfold pr3; rw [next_blk]
    exact h2.extend (b t0_3) (fun i j hi hj => by
      have : _ ≤ j := hj.1; change _ + 2048 * 3 ≤ j at this
      rcases hi with (hi | hi) | hi <;> have := hi.2 <;> omega)
  exact h3.congr fun k => by unfold rows; omega

end Device

end Cert.ArgMax

end
-- ==== Proof.Merge.lean ====
/-
# Merging the devices' pairs, column by column

At extended reals, the seven merges of a device leave, in each column, the maximum of all the rows of the whole array
and the first row that holds it.

-/
module

public import proofs.«01_k».proof.Proof.Column

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Best

local notation "ℐ" => Idealize.ShloMosaic.Ideal

/-- One pair merged with another: the second is kept where its value is greater, or equal with an earlier row. -/
def mstep (p q : EReal × EReal) : EReal × EReal := if p.1 < q.1 ∨ (q.1 = p.1 ∧ q.2 < p.2) then q else p

theorem mask_iff (P Q R : Prop) [Decidable P] [Decidable Q] [Decidable R] :
    IntOp.ori (BitVec.ofBool (decide P)) (IntOp.andi (BitVec.ofBool (decide Q)) (BitVec.ofBool (decide R))) = 1 ↔ (P ∨ (Q ∧ R)) := by
  by_cases hP : P <;> by_cases hQ : Q <;> by_cases hR : R <;> simp [hP, hQ, hR, IntOp.ori, IntOp.andi]

theorem pick (a b a' b' : EReal) (s : BitVec 1)
    (hs : s = IntOp.ori (Ideal.cmp .ogt a' a) (IntOp.andi (Ideal.cmp .oeq a' a) (Ideal.cmp .olt b' b))) :
    (Scalar.select s a' a, Scalar.select s b' b) = mstep (a, b) (a', b') := by
  have e : s = 1 ↔ (a < a' ∨ (a' = a ∧ b' < b)) := hs ▸ mask_iff (a < a') (a' = a) (b' < b)
  unfold mstep Scalar.select
  by_cases h : a < a' ∨ (a' = a ∧ b' < b)
  · rw [if_pos h, if_pos (e.2 h), if_pos (e.2 h)]
  · rw [if_neg h, if_neg fun h' => h (e.1 h'), if_neg fun h' => h (e.1 h')]

/-- A merge of row vectors, read at a column. -/
theorem step_at (a b : FVec ℐ S1x1024 .f32) (v w : Vec ℐ S1x1x1x1024 .f32) (h) (l : Fin 1024) :
    ((select (ori (cmpf .ogt (shapeCast S1x1024 v h) a) (andi (cmpf .oeq (shapeCast S1x1024 v h) a) (cmpf .olt (shapeCast S1x1024 w h) b)))
        (shapeCast S1x1024 v h) a (ix12 l),
      select (ori (cmpf .ogt (shapeCast S1x1024 v h) a) (andi (cmpf .oeq (shapeCast S1x1024 v h) a) (cmpf .olt (shapeCast S1x1024 w h) b)))
        (shapeCast S1x1024 w h) b (ix12 l)) : EReal × EReal)
      = mstep (a (ix12 l), b (ix12 l)) (v (ix4 l), w (ix4 l)) := by
  have hv := cast_4_12 v h l
  have hw := cast_4_12 w h l
  generalize shapeCast S1x1024 v h = V at hv ⊢
  generalize shapeCast S1x1024 w h = W at hw ⊢
  rw [← hv, ← hw]
  exact pick (a (ix12 l)) (b (ix12 l)) (V (ix12 l)) (W (ix12 l)) _ rfl

section Steps
variable (a b : FVec ℐ S1x1024 .f32) (d : Vec ℐ S1x1x1024 .f32) (v1 w1 v2 w2 v3 w3 : Vec ℐ S1x1x1x1024 .f32) (l : Fin 1024)

theorem step1 : ((k0_pay11 a d v1 w1 (ix12 l), k0_pay12 a d v1 w1 (ix12 l)) : EReal × EReal)
    = mstep (a (ix12 l), d (ix3 l)) (v1 (ix4 l), w1 (ix4 l)) :=
  (step_at a (k0_pay7 d) v1 w1 shapeCasts_S1x1x1x1024_S1x1024 l).trans
    (congrArg (fun e : EReal => mstep (a (ix12 l), e) (v1 (ix4 l), w1 (ix4 l))) (cast_3_12 d _ l))
theorem step2 : ((k0_pay16 a d v1 w1 v2 w2 (ix12 l), k0_pay17 a d v1 w1 v2 w2 (ix12 l)) : EReal × EReal)
    = mstep (k0_pay11 a d v1 w1 (ix12 l), k0_pay12 a d v1 w1 (ix12 l)) (v2 (ix4 l), w2 (ix4 l)) :=
  step_at (k0_pay11 a d v1 w1) (k0_pay12 a d v1 w1) v2 w2 shapeCasts_S1x1x1x1024_S1x1024 l
theorem step3 : ((k0_pay21 a d v1 w1 v2 w2 v3 w3 (ix12 l), k0_pay22 a d v1 w1 v2 w2 v3 w3 (ix12 l)) : EReal × EReal)
    = mstep (k0_pay16 a d v1 w1 v2 w2 (ix12 l), k0_pay17 a d v1 w1 v2 w2 (ix12 l)) (v3 (ix4 l), w3 (ix4 l)) :=
  step_at (k0_pay16 a d v1 w1 v2 w2) (k0_pay17 a d v1 w1 v2 w2) v3 w3 shapeCasts_S1x1x1x1024_S1x1024 l
theorem first3 : ((k0_pay21 a d v1 w1 v2 w2 v3 w3 (ix12 l), k0_pay22 a d v1 w1 v2 w2 v3 w3 (ix12 l)) : EReal × EReal)
    = mstep (mstep (mstep (a (ix12 l), d (ix3 l)) (v1 (ix4 l), w1 (ix4 l))) (v2 (ix4 l), w2 (ix4 l))) (v3 (ix4 l), w3 (ix4 l)) := by
  rw [step3, step2, step1]

theorem step4 : ((k0_pay26 a b v1 w1 (ix12 l), k0_pay27 a b v1 w1 (ix12 l)) : EReal × EReal)
    = mstep (a (ix12 l), b (ix12 l)) (v1 (ix4 l), w1 (ix4 l)) :=
  step_at a b v1 w1 shapeCasts_S1x1x1x1024_S1x1024 l
theorem step5 : ((k0_pay31 a b v1 w1 v2 w2 (ix12 l), k0_pay32 a b v1 w1 v2 w2 (ix12 l)) : EReal × EReal)
    = mstep (k0_pay26 a b v1 w1 (ix12 l), k0_pay27 a b v1 w1 (ix12 l)) (v2 (ix4 l), w2 (ix4 l)) :=
  step_at (k0_pay26 a b v1 w1) (k0_pay27 a b v1 w1) v2 w2 shapeCasts_S1x1x1x1024_S1x1024 l
theorem step6 : ((k0_pay36 a b v1 w1 v2 w2 v3 w3 (ix12 l), k0_pay37 a b v1 w1 v2 w2 v3 w3 (ix12 l)) : EReal × EReal)
    = mstep (k0_pay31 a b v1 w1 v2 w2 (ix12 l), k0_pay32 a b v1 w1 v2 w2 (ix12 l)) (v3 (ix4 l), w3 (ix4 l)) :=
  step_at (k0_pay31 a b v1 w1 v2 w2) (k0_pay32 a b v1 w1 v2 w2) v3 w3 shapeCasts_S1x1x1x1024_S1x1024 l
theorem next3 : ((k0_pay36 a b v1 w1 v2 w2 v3 w3 (ix12 l), k0_pay37 a b v1 w1 v2 w2 v3 w3 (ix12 l)) : EReal × EReal)
    = mstep (mstep (mstep (a (ix12 l), b (ix12 l)) (v1 (ix4 l), w1 (ix4 l))) (v2 (ix4 l), w2 (ix4 l))) (v3 (ix4 l), w3 (ix4 l)) := by
  rw [step6, step5, step4]

theorem step7 : ((k0_pay4 a b v1 w1 (ix12 l), k0_pay5 a b v1 w1 (ix12 l)) : EReal × EReal)
    = mstep (a (ix12 l), b (ix12 l)) (v1 (ix4 l), w1 (ix4 l)) :=
  step_at a b v1 w1 shapeCasts_S1x1x1x1024_S1x1024 l

end Steps

/-- What slot `k` holds at a column. -/
def slotc (ps : Fin 7 → PC ℐ) (k : Fin 7) (l : Fin 1024) : EReal × EReal := (ps k (ixP 0 l), ps k (ixP 1 l))

theorem out2_at (v w : Vec ℐ S1x1024 .f32) (l : Fin 1024) :
    ((out2 (F := ℐ) v w (ix2 0 l), out2 (F := ℐ) v w (ix2 1 l)) : EReal × EReal) = (v (ix12 l), w (ix12 l)) := rfl

/-- The merged pair at a column: seven merges, one after the other. -/
theorem merged_at (p : Pr ℐ) (ps : Fin 7 → PC ℐ) (l : Fin 1024) :
    ((merged p ps (ix2 0 l), merged p ps (ix2 1 l)) : EReal × EReal)
      = mstep (mstep (mstep (mstep (mstep (mstep (mstep (atc p l) (slotc ps 0 l)) (slotc ps 1 l)) (slotc ps 2 l)) (slotc ps 3 l))
          (slotc ps 4 l)) (slotc ps 5 l)) (slotc ps 6 l) := by
  have h0 : k0_pay6 p.1 (ix12 l) = p.1 (ix3 l) := cast_3_12 p.1 _ l
  have h1 := first3 (k0_pay6 p.1) p.2 (rowOf (ps 0) 0) (rowOf (ps 0) 1) (rowOf (ps 1) 0) (rowOf (ps 1) 1) (rowOf (ps 2) 0) (rowOf (ps 2) 1) l
  unfold merged
  generalize k0_pay21 (k0_pay6 p.1) p.2 (rowOf (ps 0) 0) (rowOf (ps 0) 1) (rowOf (ps 1) 0) (rowOf (ps 1) 1) (rowOf (ps 2) 0) (rowOf (ps 2) 1) = A at h1 ⊢
  generalize k0_pay22 (k0_pay6 p.1) p.2 (rowOf (ps 0) 0) (rowOf (ps 0) 1) (rowOf (ps 1) 0) (rowOf (ps 1) 1) (rowOf (ps 2) 0) (rowOf (ps 2) 1) = B at h1 ⊢
  have h2 := next3 A B (rowOf (ps 3) 0) (rowOf (ps 3) 1) (rowOf (ps 4) 0) (rowOf (ps 4) 1) (rowOf (ps 5) 0) (rowOf (ps 5) 1) l
  generalize k0_pay36 A B (rowOf (ps 3) 0) (rowOf (ps 3) 1) (rowOf (ps 4) 0) (rowOf (ps 4) 1) (rowOf (ps 5) 0) (rowOf (ps 5) 1) = A' at h2 ⊢
  generalize k0_pay37 A B (rowOf (ps 3) 0) (rowOf (ps 3) 1) (rowOf (ps 4) 0) (rowOf (ps 4) 1) (rowOf (ps 5) 0) (rowOf (ps 5) 1) = B' at h2 ⊢
  rw [out2_at, step7, h2, h1, h0]
  rfl

/-! ## All the devices -/

/-- The rows of device `d`, in the whole array. -/
def own (d : Dev nD) (k : ℕ) : Prop := 8192 * d.val ≤ k ∧ k < 8192 * d.val + 8192

theorem everyone (c d : Dev nD) : d = c ∨ d = back c 0 ∨ d = back c 1 ∨ d = back c 2 ∨ d = back c 3 ∨ d = back c 4 ∨ d = back c 5 ∨ d = back c 6 := by
  revert c d; decide

theorem own_lt {d : Dev nD} {k : ℕ} (h : own d k) : k < 65536 := by
  have hd : d.val < 8 := d.isLt
  have := h.2
  omega

theorem union_rows (c : Dev nD) (k : ℕ) :
    (((((((own c k ∨ own (back c 0) k) ∨ own (back c 1) k) ∨ own (back c 2) k) ∨ own (back c 3) k) ∨ own (back c 4) k) ∨ own (back c 5) k)
      ∨ own (back c 6) k) ↔ k < 65536 := by
  constructor
  · rintro (((((((h | h) | h) | h) | h) | h) | h) | h) <;> exact own_lt h
  · intro hk
    have hd : own (⟨k / 8192, by show k / 8192 < 8; omega⟩ : Dev nD) k := by
      unfold own
      show 8192 * (k / 8192) ≤ k ∧ k < 8192 * (k / 8192) + 8192
      omega
    rcases everyone c ⟨k / 8192, by show k / 8192 < 8; omega⟩ with h | h | h | h | h | h | h | h <;> rw [h] at hd <;> tauto

theorem Holds.mstep {y : ℕ → EReal} {S T : ℕ → Prop} {p q : EReal × EReal} (hp : Holds y S p) (hq : Holds y T q) :
    Holds y (fun k => S k ∨ T k) (ArgMax.mstep p q) := hp.merge hq

theorem merge8 (y : ℕ → EReal) (c : Dev nD) (p q0 q1 q2 q3 q4 q5 q6 : EReal × EReal) (hp : Holds y (own c) p)
    (h0 : Holds y (own (back c 0)) q0) (h1 : Holds y (own (back c 1)) q1) (h2 : Holds y (own (back c 2)) q2) (h3 : Holds y (own (back c 3)) q3)
    (h4 : Holds y (own (back c 4)) q4) (h5 : Holds y (own (back c 5)) q5) (h6 : Holds y (own (back c 6)) q6) :
    Holds y (· < 65536) (mstep (mstep (mstep (mstep (mstep (mstep (mstep p q0) q1) q2) q3) q4) q5) q6) :=
  Holds.congr (Holds.mstep (Holds.mstep (Holds.mstep (Holds.mstep (Holds.mstep (Holds.mstep (Holds.mstep hp h0) h1) h2) h3) h4) h5) h6)
    (union_rows c)

section Device
variable (m : (ℓ : Loc nD τ sig) → Buf (Elt ℐ) ℓ) (ρ : Dev nD → PrngReg)

theorem pbuf_at (p : Pr ℐ) (l : Fin 1024) : ((pbuf p (ixP 0 l), pbuf p (ixP 1 l)) : EReal × EReal) = atc p l := rfl

theorem slot_got (c : Dev nD) (k : Fin 7) (l : Fin 1024) : slotc (got m ρ c) k l = atc (pr3 m ρ (back c k)) l := by
  unfold slotc got sent
  generalize pr3 m ρ (back c k) = p
  exact pbuf_at p l

/-- Every device's result holds, in each column, the maximum of all the rows and the first of them that holds it. -/
theorem outAt_holds (y : ℕ → EReal) (c : Dev nD) (l : Fin 1024)
    (hx : ∀ (d : Dev nD) (t : Fin cfg0.N) (r : ℕ), r < 2048 →
      column (xblk m ρ d t) (⊥ : EReal) l r = y (8192 * d.val + 2048 * t.val + r)) :
    Holds y (· < 65536) (outAt m ρ c (ix2 0 l), outAt m ρ c (ix2 1 l)) := by
  have H (d : Dev nD) : Holds y (own d) (atc (pr3 m ρ d) l) := pr3_holds m ρ y d l (hx d)
  unfold outAt
  rw [merged_at, slot_got, slot_got, slot_got, slot_got, slot_got, slot_got, slot_got]
  exact merge8 y c _ _ _ _ _ _ _ _ (H c) (H _) (H _) (H _) (H _) (H _) (H _) (H _)

end Device

end Cert.ArgMax

end
-- ==== Proof.RefValue.lean ====
/-
# What the reference computes

At extended reals, each column of the reference's result is the column's maximum and the first row that holds it.
-/
module

public import proofs.«01_k».proof.Proof.Best
public import Idealize.ShloMosaic.Lib.Pipeline.Value

@[expose] public section

noncomputable section

namespace Cert.ArgMaxRef

open Idealize.ShloMosaic
open Cert.ReferenceIdeal Cert.ReferenceIdeal.Gen Cert.Best

/-- Column `l` of the array, as a function of the row number. -/
abbrev col (X : FVec Ideal S65536x1024 .bf16) (l : Fin 1024) : ℕ → EReal := column X (⊥ : EReal) l

def ixC (l : Fin 1024) : S1024.Idx := fun | 0 => l
def ixO (j : Fin 2) (l : Fin 1024) : S2x1024.Idx := fun | 0 => j | 1 => l
def ixB (l : Fin 1024) : S1x1024.Idx := fun | 0 => (0 : Fin 1) | 1 => l

theorem bot_bits : Ideal.ofBits .bf16 0xFF80#16 = ⊥ := by simp [Ideal.ofBits, Ideal.ieee]

theorem red : Shape.Reduces S65536x1024 [0] S1024 := by decide

theorem red_col (l : Fin 1024) : red.col (ixC l) = l := Fin.ext rfl

theorem top_eq (X : FVec Ideal S65536x1024 .bf16) (l : Fin 1024) :
    top X (ixC l) = (List.range 65536).foldl (fun acc r => max acc (col X l r)) ⊥ := by
  have h := reduce_column (Cert.ReferenceIdeal.Gen.reducesTo_S65536x1024_S1024_d0) red Cert.ReferenceIdeal.Gen.h_S_ (fun a b : EReal => max a b)
    (constant S_ .bf16 0xFF80#16 : FVec Ideal S_ .bf16) X (⊥ : EReal) ⊥ bot_bits (ixC l)
  rw [red_col] at h
  unfold top
  exact h

theorem pair_eq (X : FVec Ideal S65536x1024 .bf16) (l : Fin 1024) :
    Host.argReduce (reducer_argmax_bf16_i32 (F := Ideal)) X (iotaInDim S65536x1024 32 0) (constant S_ .bf16 0xFF80#16) (constantI S_ 32 0#32)
      Cert.ReferenceIdeal.Gen.reducesTo_S65536x1024_S1024_d0 Cert.ReferenceIdeal.Gen.h_S_ (ixC l)
    = (List.range 65536).foldl (fun s r => reducer_argmax_bf16_i32 (F := Ideal) s (col X l r, BitVec.ofNat 32 r)) (⊥, 0#32) := by
  have h := reduce2_column (Cert.ReferenceIdeal.Gen.reducesTo_S65536x1024_S1024_d0) red Cert.ReferenceIdeal.Gen.h_S_
    (reducer_argmax_bf16_i32 (F := Ideal)) (constant S_ .bf16 0xFF80#16 : FVec Ideal S_ .bf16) (constantI S_ 32 0#32) X (iotaInDim S65536x1024 32 0)
    (⊥ : EReal) (fun r => BitVec.ofNat 32 r) (⊥ : EReal) 0#32 bot_bits rfl (fun r c => rfl) (ixC l)
  rw [red_col] at h
  rw [Ideal.argReduce_eq_reduce2]
  exact h

theorem first_at (X : FVec Ideal S65536x1024 .bf16) (l : Fin 1024) :
    first_ X (ixC l) = (Host.argReduce (reducer_argmax_bf16_i32 (F := Ideal)) X (iotaInDim S65536x1024 32 0) (constant S_ .bf16 0xFF80#16) (constantI S_ 32 0#32)
      Cert.ReferenceIdeal.Gen.reducesTo_S65536x1024_S1024_d0 Cert.ReferenceIdeal.Gen.h_S_ (ixC l)).2 := by
  have h : first_ X = fun j => (Host.argReduce (reducer_argmax_bf16_i32 (F := Ideal)) X (iotaInDim S65536x1024 32 0) (constant S_ .bf16 0xFF80#16) (constantI S_ 32 0#32)
      Cert.ReferenceIdeal.Gen.reducesTo_S65536x1024_S1024_d0 Cert.ReferenceIdeal.Gen.h_S_ j).2 := by delta first_; rfl
  exact congrFun h (ixC l)

theorem best_of_after {x : ℕ → EReal} {n : ℕ} (hn : n ≠ 0) {s : EReal × BitVec 32} (h : After x n s) :
    ∃ i, IsBest x (· < n) i ∧ s.2 = BitVec.ofNat 32 i := by
  rcases h with ⟨h, -⟩ | ⟨i, hi, rfl⟩
  · exact absurd h hn
  · exact ⟨i, hi, rfl⟩

theorem first_spec (X : FVec Ideal S65536x1024 .bf16) (l : Fin 1024) :
    ∃ i, IsBest (col X l) (· < 65536) i ∧ first_ X (ixC l) = BitVec.ofNat 32 i := by
  have ha := foldl_after (x := col X l) 65536 (le_refl _)
  rw [← pair_eq X l] at ha
  rw [first_at]
  exact best_of_after (by decide) ha

/-- The maxima and the row numbers, column by column. -/
theorem holds (X : FVec Ideal S65536x1024 .bf16) (l : Fin 1024) :
    Holds (col X l) (· < 65536) (top X (ixC l), FloatOps.sitofp (F := Ideal) .f32 (first_ X (ixC l))) := by
  obtain ⟨i, hi, hw⟩ := first_spec X l
  rw [top_eq, hw]
  obtain ⟨hub, r, hr, he⟩ := max_rows (n := 65536) (by decide) (col X l)
  generalize List.foldl _ _ _ = M at hub he ⊢
  refine ⟨i, hi, le_antisymm ?_ ?_, ?_⟩
  · show M ≤ _
    rw [he]; exact hi.top _ hr
  · exact hub i hi.mem
  · show (((BitVec.ofNat 32 i).toInt : ℝ) : EReal) = num i
    rw [toInt_ofNat hi.mem, num, Int.cast_natCast]

/-- Two rows laid one over the other, read at a column. -/
theorem over_zero (a b : FVec Ideal S1024 .f32) (l : Fin 1024) :
    concatenate S2x1024 0
      [⟨S1x1024, broadcastInDim S1x1024 ![1] Cert.ReferenceIdeal.Gen.bcast_S1024_S1x1024_1 a⟩,
       ⟨S1x1024, broadcastInDim S1x1024 ![1] Cert.ReferenceIdeal.Gen.bcast_S1024_S1x1024_1 b⟩]
      Cert.ReferenceIdeal.Gen.concatenates_S1x1024_S1x1024_S2x1024_d0 (ixO 0 l) = a (ixC l) := by
  rw [concatenate_pair_apply_left (t := S2x1024) (s₁ := S1x1024) (s₂ := S1x1024) 0 _ _ _ (ixO 0 l) rfl (ixB l)
      (by intro b; fin_cases b <;> rfl)]
  exact broadcastInDim_apply _ _ _ _ (ixC l) (by intro b; fin_cases b; rfl)

theorem over_one (a b : FVec Ideal S1024 .f32) (l : Fin 1024) :
    concatenate S2x1024 0
      [⟨S1x1024, broadcastInDim S1x1024 ![1] Cert.ReferenceIdeal.Gen.bcast_S1024_S1x1024_1 a⟩,
       ⟨S1x1024, broadcastInDim S1x1024 ![1] Cert.ReferenceIdeal.Gen.bcast_S1024_S1x1024_1 b⟩]
      Cert.ReferenceIdeal.Gen.concatenates_S1x1024_S1x1024_S2x1024_d0 (ixO 1 l) = b (ixC l) := by
  rw [concatenate_pair_apply_right (t := S2x1024) (s₁ := S1x1024) (s₂ := S1x1024) 0 _ _ _ (ixO 1 l) rfl rfl (ixB l)
      (by intro b hb; fin_cases b <;> first | rfl | exact absurd rfl hb) rfl]
  exact broadcastInDim_apply _ _ _ _ (ixC l) (by intro b; fin_cases b; rfl)

theorem extf_at (T : FVec Ideal S1024 .bf16) (j : S1024.Idx) : extf .f32 T Cert.ReferenceIdeal.Gen.bitsLt_bf16_f32 j = T j := rfl
theorem sitofp_at (T : IVec S1024 32) (j : S1024.Idx) : sitofp (F := Ideal) .f32 T j = FloatOps.sitofp (F := Ideal) .f32 (T j) := rfl

theorem out_zero (X : FVec Ideal S65536x1024 .bf16) (l : Fin 1024) : out X (ixO 0 l) = (top X (ixC l) : EReal) := by
  unfold out
  rw [over_zero, extf_at]

theorem out_one (X : FVec Ideal S65536x1024 .bf16) (l : Fin 1024) :
    out X (ixO 1 l) = FloatOps.sitofp (F := Ideal) .f32 (first_ X (ixC l)) := by
  unfold out
  rw [over_one, sitofp_at]

/-- Column by column, the reference's result is the maximum and the first row that holds it. -/
theorem out_holds (X : FVec Ideal S65536x1024 .bf16) (l : Fin 1024) :
    Holds (col X l) (· < 65536) (out X (ixO 0 l), out X (ixO 1 l)) := by
  rw [out_zero, out_one]; exact holds X l

end Cert.ArgMaxRef

end
-- ==== Proof.Value.lean ====
/-
# The kernel's result is the reference's

The result array ends holding the merged pair, each device's blocks are rows of the whole array, and so at extended reals
every device's result is what the reference computes.

-/
module

public import proofs.«01_k».proof.Proof.Merge
public import proofs.«01_k».proof.Proof.RefValue
public import proofs.«01_k».proof.Defs
public import Idealize.ShloMosaic.Lib.Layout

@[expose] public section

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Best

local notation "ℐ" => Idealize.ShloMosaic.Ideal

section Final
variable (m : (ℓ : Loc nD τ sig) → Buf (Elt F) ℓ) (ρ : Dev nD → PrngReg)

/-! ## The result array -/

/-- The one write-back, at the last point, writes the merged pair. -/
theorem flushed_out (c : Dev nD) (t : Fin cfg0.N) (hf : (cfg0.win 1).flush t = true) :
    (dats m ρ 0 c).flushed 1 t = ((cfg0.win 1).blk t).view.read (Elt F) (outAt m ρ c) := by
  have h3 : t.val % 4 = 3 := (flush0_1 t).mp hf
  have ht : t = t0_3 := by
    rcases fin_N0 t with rfl | rfl | rfl | rfl
    · exact absurd h3 (by decide)
    · exact absurd h3 (by decide)
    · exact absurd h3 (by decide)
    · rfl
  subst ht
  have hz : (fun a => win0_1.index t0_3 a * main_v1.ty.shape.size a) = fun _ => 0 := funext fun a => by fin_cases a <;> decide
  show outAt m ρ c = _
  exact (Memref.read_access_unit_zero (Elt F) main_v1 hz (fun a => by rw [congrFun hz a]; simp) (outAt m ρ c)).symm

theorem covered (i : S2x1024.Idx) : ∃ t : Fin cfg0.N, (cfg0.win 1).flush t = true ∧ i ∈ ((cfg0.win 1).blk t).view.set := by
  refine ⟨t0_3, (flush0_1 t0_3).mpr rfl, ?_⟩
  show i ∈ ((View.whole main_v1).slice (win0_1.rect t0_3)).set
  rw [View.set_slice_whole, Rect.mem_set_unit]
  have e : ∀ a, win0_1.index t0_3 a * win0_1.size a = 0 ∧ win0_1.xsize (grid0.coords t0_3) a = S2x1024.size a := by decide
  intro a
  show win0_1.index t0_3 a * win0_1.size a ≤ (i a : Nat) ∧ (i a : Nat) < win0_1.index t0_3 a * win0_1.size a + win0_1.xsize (grid0.coords t0_3) a
  rw [(e a).1, (e a).2, Nat.zero_add]
  exact ⟨Nat.zero_le _, (i a).isLt⟩

theorem finalA_out (c : Dev nD) : finalA m ρ c (1 : Fin 2) = outAt m ρ c :=
  (dats m ρ 0 c).arrAt_eq_of_cover 1 (outAt m ρ c) (flushed_out m ρ c) covered

end Final

/-! ## The rows a device reads -/

section Ideal
variable (m : (ℓ : Loc nD τ sig) → Buf (Elt ℐ) ℓ) (ρ : Dev nD → PrngReg)

/-- Row `r` of block `t` of device `d` is row `8192 d + 2048 t + r` of the whole array. -/
theorem xblk_col (X : FVec ℐ ⟨2, ![65536, 1024]⟩ .bf16)
    (hm : ∀ c : Dev nD, m ((c.tc : Thread nD τ).loc main_arg0) = Layout.block ⟨2, ![8192, 1024]⟩ ⟨2, ![65536, 1024]⟩ 0 8 c X)
    (d : Dev nD) (t : Fin cfg0.N) (l : Fin 1024) (r : ℕ) (hr : r < 2048) :
    column (xblk m ρ d t) (⊥ : EReal) l r = column X (⊥ : EReal) l (8192 * d.val + 2048 * t.val + r) := by
  have hd : d.val < 8 := d.isLt
  have ht : t.val < 4 := by have := t.isLt; have h4 : cfg0.N = 4 := N_0; omega
  have hk : 8192 * d.val + 2048 * t.val + r < 65536 := by omega
  have hi : win0_0.index t 0 = t.val ∧ win0_0.index t 1 = 0 := by
    rcases fin_N0 t with rfl | rfl | rfl | rfl <;> decide
  rw [column_lt _ _ _ hr, column_lt _ _ _ hk]
  unfold xblk
  rw [View.read_apply]
  show m ((d.tc : Thread nD τ).loc main_arg0) ((win0_0.rect t).emb (Shape.pair (d := ![2048, 1024]) ⟨r, hr⟩ l)) = _
  rw [hm d]
  have e0 := Pipeline.Window.rect_emb_val win0_0 t (Shape.pair (d := ![2048, 1024]) ⟨r, hr⟩ l) (0 : Fin 2)
  have e1 := Pipeline.Window.rect_emb_val win0_0 t (Shape.pair (d := ![2048, 1024]) ⟨r, hr⟩ l) (1 : Fin 2)
  rw [hi.1] at e0
  rw [hi.2] at e1
  generalize (win0_0.rect t).emb (Shape.pair (d := ![2048, 1024]) ⟨r, hr⟩ l) = i at e0 e1 ⊢
  change (i 0).val = t.val * 2048 + r at e0
  change (i 1).val = 0 * 1024 + l.val at e1
  rw [Layout.block_apply]
  refine congrArg X (funext fun a => Fin.ext ?_)
  fin_cases a
  · show d.val * 8192 + (i 0).val = 8192 * d.val + 2048 * t.val + r
    omega
  · show (i 1).val = l.val
    omega

/-! ## The kernel's result is the reference's -/

theorem ixO_eq (j : Fin 2) (l : Fin 1024) : ArgMaxRef.ixO j l = ix2 j l := funext fun a => by fin_cases a <;> rfl

theorem outAt_eq (X : FVec ℐ ⟨2, ![65536, 1024]⟩ .bf16)
    (hm : ∀ c : Dev nD, m ((c.tc : Thread nD τ).loc main_arg0) = Layout.block ⟨2, ![8192, 1024]⟩ ⟨2, ![65536, 1024]⟩ 0 8 c X)
    (c : Dev nD) : outAt m ρ c = ArgMaxRef.out X := by
  have h (l : Fin 1024) : ((outAt m ρ c (ix2 0 l), outAt m ρ c (ix2 1 l)) : EReal × EReal)
      = (ArgMaxRef.out X (ix2 0 l), ArgMaxRef.out X (ix2 1 l)) := by
    have hr := ArgMaxRef.out_holds X l
    rw [ixO_eq, ixO_eq] at hr
    exact (outAt_holds m ρ (column X (⊥ : EReal) l) c l fun d t r hr => xblk_col m ρ X hm d t l r hr).unique hr
  generalize outAt m ρ c = A at h ⊢
  generalize ArgMaxRef.out X = B at h ⊢
  have h0 (l : Fin 1024) : A (ix2 0 l) = B (ix2 0 l) := (Prod.mk.inj (h l)).1
  have h1 (l : Fin 1024) : A (ix2 1 l) = B (ix2 1 l) := (Prod.mk.inj (h l)).2
  funext i
  have hi : i = ix2 (i 0) (i 1) := (ix2_eta i).symm
  generalize (i 1 : Fin 1024) = l at hi
  generalize hj : (i 0 : Fin 2) = j at hi
  rw [hi]
  fin_cases j
  · exact h0 l
  · exact h1 l

end Ideal

/-- At extended reals, every device's result is the reference's result. -/
theorem algebraic : Cert.algebraic_KernelIdeal_ReferenceIdeal := by
  intro m g m' g' _ hm
  refine ⟨ArgMaxRef.out (F := ℐ) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h.1 c (1 : Fin 2)).trans ((finalA_out m g c).trans (outAt_eq m g _ hm c)), (h.1 c (0 : Fin 2)).trans (finalA_x m g c)⟩)
      (run_main (F := ℐ) m g)
  · exact (θ_run Cert.ReferenceIdeal.defs _ _).mono (fun _ h => h 0) (ArgMaxRef.run_main (F := ℐ) m' g')

end Cert.ArgMax

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Frames.frame_kernel, Cert.Frames.frame_ideal, Cert.Frames.frame_reference, trivial, Cert.ArgMax.algebraic⟩

end Cert.Proof

end
